-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scales [hPre_normal_scales : Cert.Pre_normal_scales.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scales [hPre_normal_scales : Cert.Pre_normal_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_normal_scales [hKernelIdeal : Cert.KernelIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_normal_scales [hReferenceIdeal : Cert.ReferenceIdeal.Facts] [hPre_normal_scales : Cert.Pre_normal_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_normal_scales [hKernelIdeal : Cert.KernelIdeal.Facts] [hReferenceIdeal : Cert.ReferenceIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v7_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v7_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59_0) = v0 c
          ∧ r.2.mem ((c.tc : Thread Cert.ReferenceIdeal.nD Cert.ReferenceIdeal.τ).loc Cert.ReferenceIdeal.main_v59_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v59_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_normal_scales : Cert.Pre_normal_scales.Facts),
    quiescent_Kernel (hKernel := hKernel)
    ∧ quiescent_KernelIdeal (hKernelIdeal := hKernelIdeal)
    ∧ quiescent_KernelIdeal_pre_normal_scales (hKernelIdeal := hKernelIdeal) (hPre_normal_scales := hPre_normal_scales)
    ∧ quiescent_ReferenceIdeal (hReferenceIdeal := hReferenceIdeal)
    ∧ quiescent_ReferenceIdeal_pre_normal_scales (hReferenceIdeal := hReferenceIdeal) (hPre_normal_scales := hPre_normal_scales)
    ∧ preserves_Kernel_KernelIdeal
    ∧ algebraic_KernelIdeal_ReferenceIdeal_pre_normal_scales (hKernelIdeal := hKernelIdeal) (hReferenceIdeal := hReferenceIdeal) (hPre_normal_scales := hPre_normal_scales)
-- ==== Pre_normal_scales.lean ====
abbrev S32x1x4096 : Shape := ⟨3, ![32, 1, 4096]⟩
abbrev S32x1x2x128 : Shape := ⟨4, ![32, 1, 2, 128]⟩
abbrev S32x4096x2x128 : Shape := ⟨4, ![32, 4096, 2, 128]⟩
abbrev S2 : Shape := ⟨1, ![2]⟩
abbrev S_ : Shape := ⟨0, ![]⟩

class Facts : Prop where
  bcast_S_S2 : S_.BroadcastsInDim S2 (![] : Fin 0 → Fin S2.rank)

variable [Facts]

def fn_part1 {F : FTy → Type} [FloatOps F] (main_arg6 : IVec S2 32) (main_v13 : IVec S2 1) (main_v15 : IVec S2 32) (main_c_6 : IVec S_ 32) : IVec S2 1 × IVec S2 1 :=
  let main_v16 : IVec S2 32 := broadcastInDim S2 ![] bcast_S_S2 main_c_6
  let main_v17 : IVec S2 32 := andi main_v15 main_v16
  let main_c_7 : IVec S_ 32 := constantI S_ 32 2147483647#32
  let main_v18 : IVec S2 32 := broadcastInDim S2 ![] bcast_S_S2 main_c_7
  let main_v19 : IVec S2 32 := andi main_arg6 main_v18
  let main_c_8 : IVec S_ 32 := constantI S_ 32 0#32
  let main_v20 : IVec S2 32 := broadcastInDim S2 ![] bcast_S_S2 main_c_8
  let main_v21 : IVec S2 1 := cmpi .eq main_v19 main_v20
  let main_c_9 : IVec S_ 32 := constantI S_ 32 1#32
  let main_v22 : IVec S2 32 := broadcastInDim S2 ![] bcast_S_S2 main_c_9
  let main_v23 : IVec S2 1 := cmpi .sge main_v17 main_v22
  let main_c_10 : IVec S_ 32 := constantI S_ 32 253#32
  let main_v24 : IVec S2 32 := broadcastInDim S2 ![] bcast_S_S2 main_c_10
  let main_v25 : IVec S2 1 := cmpi .sle main_v17 main_v24
  let main_v26 : IVec S2 1 := andi main_v23 main_v25
  let main_v27 : IVec S2 1 := ori main_v21 main_v26
  (main_v13, main_v27)

def fn {F : FTy → Type} [FloatOps F] (main_arg0 : FVec F S32x1x4096 .bf16) (main_arg1 : FVec F S32x1x2x128 .bf16) (main_arg2 : FVec F S32x1x2x128 .bf16) (main_arg3 : FVec F S32x4096x2x128 .fp8e4m3) (main_arg4 : IVec S2 32) (main_arg5 : FVec F S32x4096x2x128 .fp8e4m3) (main_arg6 : IVec S2 32) : IVec S2 1 × IVec S2 1 :=
  let main_c : IVec S_ 32 := constantI S_ 32 23#32
  let main_v0 : IVec S2 32 := broadcastInDim S2 ![] bcast_S_S2 main_c
  let main_v1 : IVec S2 32 := Host.shrsi main_arg4 main_v0
  let main_c_0 : IVec S_ 32 := constantI S_ 32 255#32
  let main_v2 : IVec S2 32 := broadcastInDim S2 ![] bcast_S_S2 main_c_0
  let main_v3 : IVec S2 32 := andi main_v1 main_v2
  let main_c_1 : IVec S_ 32 := constantI S_ 32 2147483647#32
  let main_v4 : IVec S2 32 := broadcastInDim S2 ![] bcast_S_S2 main_c_1
  let main_v5 : IVec S2 32 := andi main_arg4 main_v4
  let main_c_2 : IVec S_ 32 := constantI S_ 32 0#32
  let main_v6 : IVec S2 32 := broadcastInDim S2 ![] bcast_S_S2 main_c_2
  let main_v7 : IVec S2 1 := cmpi .eq main_v5 main_v6
  let main_c_3 : IVec S_ 32 := constantI S_ 32 1#32
  let main_v8 : IVec S2 32 := broadcastInDim S2 ![] bcast_S_S2 main_c_3
  let main_v9 : IVec S2 1 := cmpi .sge main_v3 main_v8
  let main_c_4 : IVec S_ 32 := constantI S_ 32 253#32
  let main_v10 : IVec S2 32 := broadcastInDim S2 ![] bcast_S_S2 main_c_4
  let main_v11 : IVec S2 1 := cmpi .sle main_v3 main_v10
  let main_v12 : IVec S2 1 := andi main_v9 main_v11
  let main_v13 : IVec S2 1 := ori main_v7 main_v12
  let main_c_5 : IVec S_ 32 := constantI S_ 32 23#32
  let main_v14 : IVec S2 32 := broadcastInDim S2 ![] bcast_S_S2 main_c_5
  let main_v15 : IVec S2 32 := Host.shrsi main_arg6 main_v14
  let main_c_6 : IVec S_ 32 := constantI S_ 32 255#32
  fn_part1 (F := F) main_arg6 main_v13 main_v15 main_c_6
-- ==== Kernel.lean ====
abbrev S32x1x4096 : Shape := ⟨3, ![32, 1, 4096]⟩
abbrev S32x1x2x128 : Shape := ⟨4, ![32, 1, 2, 128]⟩
abbrev S32x4096x2x128 : Shape := ⟨4, ![32, 4096, 2, 128]⟩
abbrev S2 : Shape := ⟨1, ![2]⟩
abbrev S32x32x128 : Shape := ⟨3, ![32, 32, 128]⟩
abbrev S32x2x128 : Shape := ⟨3, ![32, 2, 128]⟩
abbrev S2x32x128 : Shape := ⟨3, ![2, 32, 128]⟩
abbrev S32x2x4096x128 : Shape := ⟨4, ![32, 2, 4096, 128]⟩
abbrev S2x2x4096x128 : Shape := ⟨4, ![2, 2, 4096, 128]⟩
abbrev S2x32x4096 : Shape := ⟨3, ![2, 32, 4096]⟩
abbrev S1 : Shape := ⟨1, ![1]⟩
abbrev S1x128 : Shape := ⟨2, ![1, 128]⟩
abbrev S1x32x128 : Shape := ⟨3, ![1, 32, 128]⟩
abbrev S32x128 : Shape := ⟨2, ![32, 128]⟩
abbrev S32x256 : Shape := ⟨2, ![32, 256]⟩
abbrev S1x1x128 : Shape := ⟨3, ![1, 1, 128]⟩
abbrev S32 : Shape := ⟨1, ![32]⟩
abbrev S32x1 : Shape := ⟨2, ![32, 1]⟩
abbrev S1x1x512x128 : Shape := ⟨4, ![1, 1, 512, 128]⟩
abbrev S512x128 : Shape := ⟨2, ![512, 128]⟩
abbrev S512x256 : Shape := ⟨2, ![512, 256]⟩
abbrev S32x512 : Shape := ⟨2, ![32, 512]⟩
abbrev S1x32x512 : Shape := ⟨3, ![1, 32, 512]⟩

abbrev nBuf : Space → Nat
  | .hbm => 17
  | .vmem => 15
  | .smem => 2
  | _ => 0

abbrev bufTy : (tb : Table) → Fin (tcTables nBuf tb) → BufTy
  | .hbm, ⟨0, _⟩ => ⟨S32x1x4096, .bf16⟩
  | .hbm, ⟨1, _⟩ => ⟨S32x1x2x128, .bf16⟩
  | .hbm, ⟨2, _⟩ => ⟨S32x1x2x128, .bf16⟩
  | .hbm, ⟨3, _⟩ => ⟨S32x4096x2x128, .fp8e4m3⟩
  | .hbm, ⟨4, _⟩ => ⟨S2, .i32⟩
  | .hbm, ⟨5, _⟩ => ⟨S32x4096x2x128, .fp8e4m3⟩
  | .hbm, ⟨6, _⟩ => ⟨S2, .i32⟩
  | .hbm, ⟨7, _⟩ => ⟨S32x32x128, .bf16⟩
  | .hbm, ⟨8, _⟩ => ⟨S32x2x128, .bf16⟩
  | .hbm, ⟨9, _⟩ => ⟨S2x32x128, .bf16⟩
  | .hbm, ⟨10, _⟩ => ⟨S32x2x128, .bf16⟩
  | .hbm, ⟨11, _⟩ => ⟨S2x32x128, .bf16⟩
  | .hbm, ⟨12, _⟩ => ⟨S32x2x4096x128, .fp8e4m3⟩
  | .hbm, ⟨13, _⟩ => ⟨S32x2x4096x128, .fp8e4m3⟩
  | .hbm, ⟨14, _⟩ => ⟨S32x32x128, .bf16⟩
  | .hbm, ⟨15, _⟩ => ⟨S2x32x128, .fp8e4m3⟩
  | .hbm, ⟨16, _⟩ => ⟨S2x32x128, .fp8e4m3⟩
  | .local _ .vmem, ⟨0, _⟩ => ⟨S2x32x128, .bf16⟩
  | .local _ .vmem, ⟨1, _⟩ => ⟨S2x32x128, .bf16⟩
  | .local _ .vmem, ⟨2, _⟩ => ⟨S2x32x128, .bf16⟩
  | .local _ .vmem, ⟨3, _⟩ => ⟨S2x32x128, .bf16⟩
  | .local _ .vmem, ⟨4, _⟩ => ⟨S2x2x4096x128, .fp8e4m3⟩
  | .local _ .vmem, ⟨5, _⟩ => ⟨S2x2x4096x128, .fp8e4m3⟩
  | .local _ .vmem, ⟨6, _⟩ => ⟨S2x2x4096x128, .fp8e4m3⟩
  | .local _ .vmem, ⟨7, _⟩ => ⟨S2x2x4096x128, .fp8e4m3⟩
  | .local _ .vmem, ⟨8, _⟩ => ⟨S2x32x128, .bf16⟩
  | .local _ .vmem, ⟨9, _⟩ => ⟨S2x32x128, .bf16⟩
  | .local _ .vmem, ⟨10, _⟩ => ⟨S2x32x128, .fp8e4m3⟩
  | .local _ .vmem, ⟨11, _⟩ => ⟨S2x32x128, .fp8e4m3⟩
  | .local _ .vmem, ⟨12, _⟩ => ⟨S2x32x4096, .f32⟩
  | .local _ .vmem, ⟨13, _⟩ => ⟨S2x32x128, .f32⟩
  | .local _ .vmem, ⟨14, _⟩ => ⟨S2x32x128, .f32⟩
  | .local _ .smem, ⟨0, _⟩ => ⟨S2, .i32⟩
  | .local _ .smem, ⟨1, _⟩ => ⟨S2, .i32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_off1 (i : grid0.Coords) (c0_i32_3 : BitVec 32) : Fin 3 → Nat :=
  let c0_7 : Index := 0#32
  let arg0 : BitVec 32 := BitVec.ofNat 32 (i 0).val
  let c2_i32 : BitVec 32 := 2#32
  let v22 : BitVec 32 := Scalar.muli arg0 c2_i32
  let v23 : BitVec 32 := Scalar.addi v22 c0_i32_3
  let v30 : Index := Scalar.indexCast v23
  let c0_8 : Index := 0#32
  ![0, v30.toNat, 0]
def k0_off2 (i : grid0.Coords) (c0_i32_3 : BitVec 32) : Fin 3 → Nat :=
  let c1_9 : Index := 1#32
  let arg0 : BitVec 32 := BitVec.ofNat 32 (i 0).val
  let c2_i32 : BitVec 32 := 2#32
  let v22 : BitVec 32 := Scalar.muli arg0 c2_i32
  let v23 : BitVec 32 := Scalar.addi v22 c0_i32_3
  let v33 : Index := Scalar.indexCast v23
  let c0_10 : Index := 0#32
  ![1, v33.toNat, 0]
def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_2 : BitVec 32 := 0#32
  let v18 : BitVec 1 := Scalar.cmpi .ne v17 c0_i32_2
  v18

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x2x4096x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2x4096x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x32x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x32x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S32x1x4096 : Shape := ⟨3, ![32, 1, 4096]⟩
abbrev S32x1x2x128 : Shape := ⟨4, ![32, 1, 2, 128]⟩
abbrev S32x4096x2x128 : Shape := ⟨4, ![32, 4096, 2, 128]⟩
abbrev S2 : Shape := ⟨1, ![2]⟩
abbrev S254 : Shape := ⟨1, ![254]⟩
abbrev S_ : Shape := ⟨0, ![]⟩
abbrev S1x254 : Shape := ⟨2, ![1, 254]⟩
abbrev S2x1 : Shape := ⟨2, ![2, 1]⟩
abbrev S2x254 : Shape := ⟨2, ![2, 254]⟩
abbrev S64x16x128 : Shape := ⟨3, ![64, 16, 128]⟩
abbrev S64x1x128 : Shape := ⟨3, ![64, 1, 128]⟩
abbrev S32x2x4096x128 : Shape := ⟨4, ![32, 2, 4096, 128]⟩
abbrev S64x4096x128 : Shape := ⟨3, ![64, 4096, 128]⟩
abbrev S1x2x1x1 : Shape := ⟨4, ![1, 2, 1, 1]⟩
abbrev S32x2x1x1 : Shape := ⟨4, ![32, 2, 1, 1]⟩
abbrev S64x1x1 : Shape := ⟨3, ![64, 1, 1]⟩
abbrev S32x32x128 : Shape := ⟨3, ![32, 32, 128]⟩
abbrev S2x32x128 : Shape := ⟨3, ![2, 32, 128]⟩
abbrev S32x2x128 : Shape := ⟨3, ![32, 2, 128]⟩
abbrev S64x16x4096 : Shape := ⟨3, ![64, 16, 4096]⟩
abbrev S64x16x1 : Shape := ⟨3, ![64, 16, 1]⟩
abbrev S64x16 : Shape := ⟨2, ![64, 16]⟩

abbrev nBuf : Space → Nat
  | .hbm => 93
  | .vmem => 12
  | .smem => 0
  | _ => 0

abbrev bufTy : (tb : Table) → Fin (tcTables nBuf tb) → BufTy
  | .hbm, ⟨0, _⟩ => ⟨S32x1x4096, .bf16⟩
  | .hbm, ⟨1, _⟩ => ⟨S32x1x2x128, .bf16⟩
  | .hbm, ⟨2, _⟩ => ⟨S32x1x2x128, .bf16⟩
  | .hbm, ⟨3, _⟩ => ⟨S32x4096x2x128, .fp8e4m3⟩
  | .hbm, ⟨4, _⟩ => ⟨S2, .i32⟩
  | .hbm, ⟨5, _⟩ => ⟨S32x4096x2x128, .fp8e4m3⟩
  | .hbm, ⟨6, _⟩ => ⟨S2, .i32⟩
  | .hbm, ⟨7, _⟩ => ⟨S2, .f32⟩
  | .hbm, ⟨8, _⟩ => ⟨S2, .f32⟩
  | .hbm, ⟨9, _⟩ => ⟨S254, .f32⟩
  | .hbm, ⟨10, _⟩ => ⟨S_, .f32⟩
  | .hbm, ⟨11, _⟩ => ⟨S254, .f32⟩
  | .hbm, ⟨12, _⟩ => ⟨S254, .f32⟩
  | .hbm, ⟨13, _⟩ => ⟨S_, .f32⟩
  | .hbm, ⟨14, _⟩ => ⟨S254, .f32⟩
  | .hbm, ⟨15, _⟩ => ⟨S254, .f32⟩
  | .hbm, ⟨16, _⟩ => ⟨S1x254, .f32⟩
  | .hbm, ⟨17, _⟩ => ⟨S2x1, .f32⟩
  | .hbm, ⟨18, _⟩ => ⟨S2x254, .f32⟩
  | .hbm, ⟨19, _⟩ => ⟨S2x254, .f32⟩
  | .hbm, ⟨20, _⟩ => ⟨S2x254, .i1⟩
  | .hbm, ⟨21, _⟩ => ⟨S1x254, .f32⟩
  | .hbm, ⟨22, _⟩ => ⟨S_, .f32⟩
  | .hbm, ⟨23, _⟩ => ⟨S_, .f32⟩
  | .hbm, ⟨24, _⟩ => ⟨S2x254, .f32⟩
  | .hbm, ⟨25, _⟩ => ⟨S2x254, .f32⟩
  | .hbm, ⟨26, _⟩ => ⟨S2x254, .f32⟩
  | .hbm, ⟨27, _⟩ => ⟨S_, .f32⟩
  | .hbm, ⟨28, _⟩ => ⟨S2, .f32⟩
  | .hbm, ⟨29, _⟩ => ⟨S_, .f32⟩
  | .hbm, ⟨30, _⟩ => ⟨S2, .f32⟩
  | .hbm, ⟨31, _⟩ => ⟨S2, .i1⟩
  | .hbm, ⟨32, _⟩ => ⟨S_, .f32⟩
  | .hbm, ⟨33, _⟩ => ⟨S2, .f32⟩
  | .hbm, ⟨34, _⟩ => ⟨S2, .f32⟩
  | .hbm, ⟨35, _⟩ => ⟨S_, .f32⟩
  | .hbm, ⟨36, _⟩ => ⟨S_, .f32⟩
  | .hbm, ⟨37, _⟩ => ⟨S2, .f32⟩
  | .hbm, ⟨38, _⟩ => ⟨S2, .f32⟩
  | .hbm, ⟨39, _⟩ => ⟨S2, .f32⟩
  | .hbm, ⟨40, _⟩ => ⟨S2, .f32⟩
  | .hbm, ⟨41, _⟩ => ⟨S254, .f32⟩
  | .hbm, ⟨42, _⟩ => ⟨S_, .f32⟩
  | .hbm, ⟨43, _⟩ => ⟨S254, .f32⟩
  | .hbm, ⟨44, _⟩ => ⟨S254, .f32⟩
  | .hbm, ⟨45, _⟩ => ⟨S_, .f32⟩
  | .hbm, ⟨46, _⟩ => ⟨S254, .f32⟩
  | .hbm, ⟨47, _⟩ => ⟨S254, .f32⟩
  | .hbm, ⟨48, _⟩ => ⟨S1x254, .f32⟩
  | .hbm, ⟨49, _⟩ => ⟨S2x1, .f32⟩
  | .hbm, ⟨50, _⟩ => ⟨S2x254, .f32⟩
  | .hbm, ⟨51, _⟩ => ⟨S2x254, .f32⟩
  | .hbm, ⟨52, _⟩ => ⟨S2x254, .i1⟩
  | .hbm, ⟨53, _⟩ => ⟨S1x254, .f32⟩
  | .hbm, ⟨54, _⟩ => ⟨S_, .f32⟩
  | .hbm, ⟨55, _⟩ => ⟨S_, .f32⟩
  | .hbm, ⟨56, _⟩ => ⟨S2x254, .f32⟩
  | .hbm, ⟨57, _⟩ => ⟨S2x254, .f32⟩
  | .hbm, ⟨58, _⟩ => ⟨S2x254, .f32⟩
  | .hbm, ⟨59, _⟩ => ⟨S_, .f32⟩
  | .hbm, ⟨60, _⟩ => ⟨S2, .f32⟩
  | .hbm, ⟨61, _⟩ => ⟨S_, .f32⟩
  | .hbm, ⟨62, _⟩ => ⟨S2, .f32⟩
  | .hbm, ⟨63, _⟩ => ⟨S2, .i1⟩
  | .hbm, ⟨64, _⟩ => ⟨S_, .f32⟩
  | .hbm, ⟨65, _⟩ => ⟨S2, .f32⟩
  | .hbm, ⟨66, _⟩ => ⟨S2, .f32⟩
  | .hbm, ⟨67, _⟩ => ⟨S_, .f32⟩
  | .hbm, ⟨68, _⟩ => ⟨S_, .f32⟩
  | .hbm, ⟨69, _⟩ => ⟨S2, .f32⟩
  | .hbm, ⟨70, _⟩ => ⟨S2, .f32⟩
  | .hbm, ⟨71, _⟩ => ⟨S64x16x128, .bf16⟩
  | .hbm, ⟨72, _⟩ => ⟨S64x1x128, .bf16⟩
  | .hbm, ⟨73, _⟩ => ⟨S64x1x128, .bf16⟩
  | .hbm, ⟨74, _⟩ => ⟨S32x2x4096x128, .fp8e4m3⟩
  | .hbm, ⟨75, _⟩ => ⟨S64x4096x128, .fp8e4m3⟩
  | .hbm, ⟨76, _⟩ => ⟨S32x2x4096x128, .fp8e4m3⟩
  | .hbm, ⟨77, _⟩ => ⟨S64x4096x128, .fp8e4m3⟩
  | .hbm, ⟨78, _⟩ => ⟨S1x2x1x1, .f32⟩
  | .hbm, ⟨79, _⟩ => ⟨S32x2x1x1, .f32⟩
  | .hbm, ⟨80, _⟩ => ⟨S64x1x1, .f32⟩
  | .hbm, ⟨81, _⟩ => ⟨S1x2x1x1, .f32⟩
  | .hbm, ⟨82, _⟩ => ⟨S32x2x1x1, .f32⟩
  | .hbm, ⟨83, _⟩ => ⟨S64x1x1, .f32⟩
  | .hbm, ⟨84, _⟩ => ⟨S1x2x1x1, .f32⟩
  | .hbm, ⟨85, _⟩ => ⟨S32x2x1x1, .f32⟩
  | .hbm, ⟨86, _⟩ => ⟨S64x1x1, .f32⟩
  | .hbm, ⟨87, _⟩ => ⟨S1x2x1x1, .f32⟩
  | .hbm, ⟨88, _⟩ => ⟨S32x2x1x1, .f32⟩
  | .hbm, ⟨89, _⟩ => ⟨S64x1x1, .f32⟩
  | .hbm, ⟨90, _⟩ => ⟨S32x32x128, .bf16⟩
  | .hbm, ⟨91, _⟩ => ⟨S2x32x128, .fp8e4m3⟩
  | .hbm, ⟨92, _⟩ => ⟨S2x32x128, .fp8e4m3⟩
  | .local _ .vmem, ⟨0, _⟩ => ⟨S64x1x1, .f32⟩
  | .local _ .vmem, ⟨1, _⟩ => ⟨S64x1x1, .f32⟩
  | .local _ .vmem, ⟨2, _⟩ => ⟨S64x1x1, .f32⟩
  | .local _ .vmem, ⟨3, _⟩ => ⟨S64x1x1, .f32⟩
  | .local _ .vmem, ⟨4, _⟩ => ⟨S64x16x128, .bf16⟩
  | .local _ .vmem, ⟨5, _⟩ => ⟨S64x1x128, .bf16⟩
  | .local _ .vmem, ⟨6, _⟩ => ⟨S64x1x128, .bf16⟩
  | .local _ .vmem, ⟨7, _⟩ => ⟨S64x4096x128, .fp8e4m3⟩
  | .local _ .vmem, ⟨8, _⟩ => ⟨S64x4096x128, .fp8e4m3⟩
  | .local _ .vmem, ⟨9, _⟩ => ⟨S32x32x128, .bf16⟩
  | .local _ .vmem, ⟨10, _⟩ => ⟨S2x32x128, .fp8e4m3⟩
  | .local _ .vmem, ⟨11, _⟩ => ⟨S2x32x128, .fp8e4m3⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_cst_10 : Ref sig .tc := ⟨.hbm, 61, rfl⟩
abbrev main_v35 : Ref sig .tc := ⟨.hbm, 62, rfl⟩
abbrev main_v36 : Ref sig .tc := ⟨.hbm, 63, rfl⟩
abbrev main_cst_11 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_call3_v0 : Ref sig .tc := ⟨.hbm, 68, rfl⟩
abbrev main_call3_v1 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59_0 : Ref sig .tc := ⟨.hbm, 90, rfl⟩
abbrev main_v59_1 : Ref sig .tc := ⟨.hbm, 91, rfl⟩
abbrev main_v59_2 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S64x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x4096x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x4096x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x32x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x32x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x32x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KRuns.lean ====
/- What the two runs of the kernel body share: the branch condition in closed form, the staging and scratch
   memrefs at a point, and the invariant before the first point. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S2 .i32 := win0_0.stage (cfg0.slots t 0)
/-- The staging buffer of window 0 (the key scale) is a whole buffer. -/
abbrev hs0_0 (t : Fin cfg0.N) : (ms0_0 t).IsWhole := hstage0_0 ((cfg0.slots t 0).cast nbuf0_0)
/-- The staging buffer of window 1 (the value scale) at a grid step. -/
abbrev ms0_1 (t : Fin cfg0.N) : Memref sig .tc .smem S2 .i32 := win0_1.stage (cfg0.slots t 1)
/-- The staging buffer of window 1 (the value scale) is a whole buffer. -/
abbrev hs0_1 (t : Fin cfg0.N) : (ms0_1 t).IsWhole := hstage0_1 ((cfg0.slots t 1).cast nbuf0_1)
/-- The staging buffer of window 2 (the queries) at a grid step. -/
abbrev ms0_2 (t : Fin cfg0.N) : Memref sig .tc .vmem S2x32x128 .bf16 := win0_2.stage (cfg0.slots t 2)
/-- The staging buffer of window 2 (the queries) is a whole buffer. -/
abbrev hs0_2 (t : Fin cfg0.N) : (ms0_2 t).IsWhole := hstage0_2 ((cfg0.slots t 2).cast nbuf0_2)
/-- The staging buffer of window 3 (the new keys) at a grid step. -/
abbrev ms0_3 (t : Fin cfg0.N) : Memref sig .tc .vmem S2x32x128 .bf16 := win0_3.stage (cfg0.slots t 3)
/-- The staging buffer of window 3 (the new keys) is a whole buffer. -/
abbrev hs0_3 (t : Fin cfg0.N) : (ms0_3 t).IsWhole := hstage0_3 ((cfg0.slots t 3).cast nbuf0_3)
/-- The staging buffer of window 4 (the new values) at a grid step. -/
abbrev ms0_4 (t : Fin cfg0.N) : Memref sig .tc .vmem S2x32x128 .bf16 := win0_4.stage (cfg0.slots t 4)
/-- The staging buffer of window 4 (the new values) is a whole buffer. -/
abbrev hs0_4 (t : Fin cfg0.N) : (ms0_4 t).IsWhole := hstage0_4 ((cfg0.slots t 4).cast nbuf0_4)
/-- The staging buffer of window 5 (the key cache) at a grid step. -/
abbrev ms0_5 (t : Fin cfg0.N) : Memref sig .tc .vmem S2x2x4096x128 .fp8e4m3 := win0_5.stage (cfg0.slots t 5)
/-- The staging buffer of window 5 (the key cache) is a whole buffer. -/
abbrev hs0_5 (t : Fin cfg0.N) : (ms0_5 t).IsWhole := hstage0_5 ((cfg0.slots t 5).cast nbuf0_5)
/-- The staging buffer of window 6 (the value cache) at a grid step. -/
abbrev ms0_6 (t : Fin cfg0.N) : Memref sig .tc .vmem S2x2x4096x128 .fp8e4m3 := win0_6.stage (cfg0.slots t 6)
/-- The staging buffer of window 6 (the value cache) is a whole buffer. -/
abbrev hs0_6 (t : Fin cfg0.N) : (ms0_6 t).IsWhole := hstage0_6 ((cfg0.slots t 6).cast nbuf0_6)
/-- The staging buffer of window 7 (the output) at a grid step. -/
abbrev ms0_7 (t : Fin cfg0.N) : Memref sig .tc .vmem S2x32x128 .bf16 := win0_7.stage (cfg0.slots t 7)
/-- The staging buffer of window 7 (the output) is a whole buffer. -/
abbrev hs0_7 (t : Fin cfg0.N) : (ms0_7 t).IsWhole := hstage0_7 ((cfg0.slots t 7).cast nbuf0_7)
/-- The staging buffer of window 8 (the key codes) at a grid step. -/
abbrev ms0_8 (t : Fin cfg0.N) : Memref sig .tc .vmem S2x32x128 .fp8e4m3 := win0_8.stage (cfg0.slots t 8)
/-- The staging buffer of window 8 (the key codes) is a whole buffer. -/
abbrev hs0_8 (t : Fin cfg0.N) : (ms0_8 t).IsWhole := hstage0_8 ((cfg0.slots t 8).cast nbuf0_8)
/-- The staging buffer of window 9 (the value codes) at a grid step. -/
abbrev ms0_9 (t : Fin cfg0.N) : Memref sig .tc .vmem S2x32x128 .fp8e4m3 := win0_9.stage (cfg0.slots t 9)
/-- The staging buffer of window 9 (the value codes) is a whole buffer. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x32x4096 .f32 := Memref.whole cc0_scratch0
/-- The scratch that keeps the quantised new keys. -/
abbrev scM0_1 : Memref sig .tc .vmem S2x32x128 .f32 := Memref.whole cc0_scratch1
/-- The scratch that keeps the quantised new values. -/
abbrev scM0_2 : Memref sig .tc .vmem S2x32x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KRunA.lean ====
/- The run of the whole kernel body in case A of its branch. -/
module

public import proofs.«01_k».proof.Proof.KRuns

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at step 0 (the branch taken): it runs from the inputs at their contents and everything else at anything, and ends
    with the inputs as they were and with lists of stored pieces in the output y (`L7`), the two code arrays (`L8`, `L9`), the
    dequantised new rows (`LS1`, `LS2`) and the score scratch (`LT0`). The lists are the witness the run finds. -/
noncomputable def kernelRun0_A (c : Dev nD) (i : grid0.Coords) (arg1 : Memref sig .tc .smem S2 .i32) (harg1 : arg1.IsWhole) (arg2 : Memref sig .tc .smem S2 .i32) (harg2 : arg2.IsWhole) (arg3 : Memref sig .tc .vmem S2x32x128 .bf16) (harg3 : arg3.IsWhole) (arg4 : Memref sig .tc .vmem S2x32x128 .bf16) (harg4 : arg4.IsWhole) (arg5 : Memref sig .tc .vmem S2x32x128 .bf16) (harg5 : arg5.IsWhole) (arg6 : Memref sig .tc .vmem S2x2x4096x128 .fp8e4m3) (harg6 : arg6.IsWhole) (arg7 : Memref sig .tc .vmem S2x2x4096x128 .fp8e4m3) (harg7 : arg7.IsWhole) (arg8 : Memref sig .tc .vmem S2x32x128 .bf16) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x4096 .f32) (harg11 : arg11.IsWhole) (arg12 : Memref sig .tc .vmem S2x32x128 .f32) (harg12 : arg12.IsWhole) (arg13 : Memref sig .tc .vmem S2x32x128 .f32) (harg13 : arg13.IsWhole) (hc0 : cond0_0 i)
    (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :
    Σ' (L7 : List (View.Piece (Elt F) S2x32x128 .bf16)), Σ' (L8 : List (View.Piece (Elt F) S2x32x128 .fp8e4m3)), Σ' (L9 : List (View.Piece (Elt F) S2x32x128 .fp8e4m3)), Σ' (LS1 : List (View.Piece (Elt F) S2x32x128 .f32)), Σ' (LS2 : List (View.Piece (Elt F) S2x32x128 .f32)), { LT0 : List (View.Piece (Elt F) S2x32x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LT0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_gqa_decode_fp8_eq_skeleton]; unfold cc0_gqa_decode_fp8_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Hand

end
-- ==== Proof.KRunB.lean ====
/- The run of the whole kernel body in case B of its branch. -/
module

public import proofs.«01_k».proof.Proof.KRunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a later step (the branch not taken): it runs from the inputs, the two code arrays and the dequantised new rows at
    given contents and the rest at anything, leaves all of those as they were, and ends with lists of stored pieces in the
    output y (`L7`) and the score scratch (`LT0`). The lists are the witness the run finds. -/
noncomputable def kernelRun0_B (c : Dev nD) (i : grid0.Coords) (arg1 : Memref sig .tc .smem S2 .i32) (harg1 : arg1.IsWhole) (arg2 : Memref sig .tc .smem S2 .i32) (harg2 : arg2.IsWhole) (arg3 : Memref sig .tc .vmem S2x32x128 .bf16) (harg3 : arg3.IsWhole) (arg4 : Memref sig .tc .vmem S2x32x128 .bf16) (harg4 : arg4.IsWhole) (arg5 : Memref sig .tc .vmem S2x32x128 .bf16) (harg5 : arg5.IsWhole) (arg6 : Memref sig .tc .vmem S2x2x4096x128 .fp8e4m3) (harg6 : arg6.IsWhole) (arg7 : Memref sig .tc .vmem S2x2x4096x128 .fp8e4m3) (harg7 : arg7.IsWhole) (arg8 : Memref sig .tc .vmem S2x32x128 .bf16) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x4096 .f32) (harg11 : arg11.IsWhole) (arg12 : Memref sig .tc .vmem S2x32x128 .f32) (harg12 : arg12.IsWhole) (arg13 : Memref sig .tc .vmem S2x32x128 .f32) (harg13 : arg13.IsWhole) (hc0 : ¬cond0_0 i)
    (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3)  (d8 : Vec F S2x32x128 .fp8e4m3) (d9 : Vec F S2x32x128 .fp8e4m3) (xs1 : Vec F S2x32x128 .f32) (xs2 : Vec F S2x32x128 .f32) :
    Σ' (L7 : List (View.Piece (Elt F) S2x32x128 .bf16)), { LT0 : List (View.Piece (Elt F) S2x32x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare d8 ∗ owns (c : Thread nD τ) arg10 fullShare d9 ∗ (∃ d, owns (c : Thread nD τ) arg11 fullShare d) ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare d8 ∗ owns (c : Thread nD τ) arg10 fullShare d9 ∗ (∃ f, arg11.view.loc (c : Thread nD τ) ↦[arg11.view.set]{fullShare} arg11.view.writes (Elt F) f LT0) ∗ owns (c : Thread nD τ) arg12 fullShare xs1 ∗ owns (c : Thread nD τ) arg13 fullShare xs2) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_gqa_decode_fp8_eq_skeleton]; unfold cc0_gqa_decode_fp8_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg12.eq_unread hfs1; obtain rfl := harg13.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    isplitl [HS1]
    · iexists _; isplitr; · ipureintro; exact harg12.read_unread _
      iexact HS1
    iexists _; isplitr; · ipureintro; exact harg13.read_unread _
    iexact HS2

end Cert.KernelIdeal.Hand

end
-- ==== Proof.KFrame.lean ====
/- The run of the kernel with its outputs named: the proof data, the body obligation, the launch and the frame. -/
module

public import proofs.«01_k».proof.Proof.KRunB
public import Idealize.ShloMosaic.Lib.Claim
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window and the two carried scratch buffers, through which their contents are stated. -/
abbrev VO0_7 : View sig .tc .vmem S2x32x128 .bf16 := (Memref.whole cc0_stg7_0 : Memref sig .tc .vmem S2x32x128 .bf16).view
/-- The output buffer of the key codes, as a view. -/
abbrev VO0_8 : View sig .tc .vmem S2x32x128 .fp8e4m3 := (Memref.whole cc0_stg8_0 : Memref sig .tc .vmem S2x32x128 .fp8e4m3).view
/-- The output buffer of the value codes, as a view. -/
abbrev VO0_9 : View sig .tc .vmem S2x32x128 .fp8e4m3 := (Memref.whole cc0_stg9_0 : Memref sig .tc .vmem S2x32x128 .fp8e4m3).view
/-- The scratch of the quantised new keys, as a view. -/
abbrev VS0_1 : View sig .tc .vmem S2x32x128 .f32 := scM0_1.view
/-- The scratch of the quantised new values, as a view. -/
abbrev VS0_2 : View sig .tc .vmem S2x32x128 .f32 := scM0_2.view

/-- The step-0 run at point `t`'s staging memrefs. -/
abbrev runA (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc x0 x1 x2 x3 x4 x5 x6
/-- The later-step run at point `t`'s staging memrefs. -/
abbrev runB (c : Dev nD) (t : Fin cfg0.N) (hc : ¬cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) (d8 : Vec F S2x32x128 .fp8e4m3) (d9 : Vec F S2x32x128 .fp8e4m3) (xs1 : Vec F S2x32x128 .f32) (xs2 : Vec F S2x32x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc x0 x1 x2 x3 x4 x5 x6 d8 d9 xs1 xs2

/-- What the step-0 run stores into the output y covers it. -/
theorem coverA_7 (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) (y : S2x32x128.Idx) :
    ∃ pc ∈ (runA c t hc x0 x1 x2 x3 x4 x5 x6).1, y ∈ pc.1.set :=
  View.cover_of_tiledL (runA c t hc x0 x1 x2 x3 x4 x5 x6).1 S1x32x128.size (by sl_kernel_rfl) y
/-- What the step-0 run leaves in the output y. -/
def outA_7 (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :=
  VO0_7.read (Elt F) (VO0_7.writes (Elt F) VO0_7.junk (runA c t hc x0 x1 x2 x3 x4 x5 x6).1)

/-- What the step-0 run stores into the k codes covers it. -/
theorem coverA_8 (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) (y : S2x32x128.Idx) :
    ∃ pc ∈ (runA c t hc x0 x1 x2 x3 x4 x5 x6).2.1, y ∈ pc.1.set :=
  View.cover_of_tiledL (runA c t hc x0 x1 x2 x3 x4 x5 x6).2.1 S1x32x128.size (by sl_kernel_rfl) y
/-- What the step-0 run leaves in the k codes. -/
def outA_8 (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :=
  VO0_8.read (Elt F) (VO0_8.writes (Elt F) VO0_8.junk (runA c t hc x0 x1 x2 x3 x4 x5 x6).2.1)

/-- What the step-0 run stores into the v codes covers it. -/
theorem coverA_9 (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) (y : S2x32x128.Idx) :
    ∃ pc ∈ (runA c t hc x0 x1 x2 x3 x4 x5 x6).2.2.1, y ∈ pc.1.set :=
  View.cover_of_tiledL (runA c t hc x0 x1 x2 x3 x4 x5 x6).2.2.1 S1x32x128.size (by sl_kernel_rfl) y
/-- What the step-0 run leaves in the v codes. -/
def outA_9 (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :=
  VO0_9.read (Elt F) (VO0_9.writes (Elt F) VO0_9.junk (runA c t hc x0 x1 x2 x3 x4 x5 x6).2.2.1)

/-- What the step-0 run stores into the dequantised new k rows covers it. -/
theorem coverA_S1 (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) (y : S2x32x128.Idx) :
    ∃ pc ∈ (runA c t hc x0 x1 x2 x3 x4 x5 x6).2.2.2.1, y ∈ pc.1.set :=
  View.cover_of_tiledL (runA c t hc x0 x1 x2 x3 x4 x5 x6).2.2.2.1 S1x32x128.size (by sl_kernel_rfl) y
/-- What the step-0 run leaves in the dequantised new k rows. -/
def outA_S1 (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :=
  VS0_1.read (Elt F) (VS0_1.writes (Elt F) VS0_1.junk (runA c t hc x0 x1 x2 x3 x4 x5 x6).2.2.2.1)

/-- What the step-0 run stores into the dequantised new v rows covers it. -/
theorem coverA_S2 (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) (y : S2x32x128.Idx) :
    ∃ pc ∈ (runA c t hc x0 x1 x2 x3 x4 x5 x6).2.2.2.2.1, y ∈ pc.1.set :=
  View.cover_of_tiledL (runA c t hc x0 x1 x2 x3 x4 x5 x6).2.2.2.2.1 S1x32x128.size (by sl_kernel_rfl) y
/-- What the step-0 run leaves in the dequantised new v rows. -/
def outA_S2 (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :=
  VS0_2.read (Elt F) (VS0_2.writes (Elt F) VS0_2.junk (runA c t hc x0 x1 x2 x3 x4 x5 x6).2.2.2.2.1)

/-- What a later step's run stores into the output y covers it. -/
theorem coverB_7 (c : Dev nD) (t : Fin cfg0.N) (hc : ¬cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) (d8 : Vec F S2x32x128 .fp8e4m3) (d9 : Vec F S2x32x128 .fp8e4m3) (xs1 : Vec F S2x32x128 .f32) (xs2 : Vec F S2x32x128 .f32) (y : S2x32x128.Idx) :
    ∃ pc ∈ (runB c t hc x0 x1 x2 x3 x4 x5 x6 d8 d9 xs1 xs2).1, y ∈ pc.1.set :=
  View.cover_of_tiledL (runB c t hc x0 x1 x2 x3 x4 x5 x6 d8 d9 xs1 xs2).1 S1x32x128.size (by sl_kernel_rfl) y
/-- What a later step's run leaves in the output y. -/
def outB_7 (c : Dev nD) (t : Fin cfg0.N) (hc : ¬cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) (d8 : Vec F S2x32x128 .fp8e4m3) (d9 : Vec F S2x32x128 .fp8e4m3) (xs1 : Vec F S2x32x128 .f32) (xs2 : Vec F S2x32x128 .f32) : Vec F S2x32x128 .bf16 :=
  VO0_7.read (Elt F) (VO0_7.writes (Elt F) VO0_7.junk (runB c t hc x0 x1 x2 x3 x4 x5 x6 d8 d9 xs1 xs2).1)

/-! ## What the buffers hold point by point -/

/-- The first point of the grid. -/
abbrev t0 : Fin cfg0.N := ⟨0, by rw [show cfg0.N = 16 from N_0]; decide⟩
/-- The first grid step takes the branch that quantises the new token. -/
theorem hcA : cond0_0 (grid0.coords t0) := (hcond0_0 t0).mpr rfl
/-- A grid step numbered zero takes that branch. -/
theorem hcA' (t : Fin cfg0.N) (h : t.val = 0) : cond0_0 (grid0.coords t) := (hcond0_0 t).mpr (by rw [h])
/-- No later grid step takes that branch. -/
theorem hcB (t : Fin cfg0.N) (h : t.val ≠ 0) : ¬cond0_0 (grid0.coords t) := fun h' => by
  have hN : t.val < 16 := lt_of_lt_of_eq t.isLt (show cfg0.N = 16 from N_0)
  have := (hcond0_0 t).mp h'; omega

/-- The k codes, the v codes and the dequantised new rows, as step 0 leaves them and every later step finds them. -/
def codesK (c : Dev nD) : Vec F S2x32x128 .fp8e4m3 := outA_8 c t0 hcA (iblk m c 0 t0) (iblk m c 1 t0) (iblk m c 2 t0) (iblk m c 3 t0) (iblk m c 4 t0) (iblk m c 5 t0) (iblk m c 6 t0)
/-- The value codes the first grid step stores. -/
def codesV (c : Dev nD) : Vec F S2x32x128 .fp8e4m3 := outA_9 c t0 hcA (iblk m c 0 t0) (iblk m c 1 t0) (iblk m c 2 t0) (iblk m c 3 t0) (iblk m c 4 t0) (iblk m c 5 t0) (iblk m c 6 t0)
/-- The key rows the first grid step keeps in scratch. -/
def rowsK (c : Dev nD) : Vec F S2x32x128 .f32 := outA_S1 c t0 hcA (iblk m c 0 t0) (iblk m c 1 t0) (iblk m c 2 t0) (iblk m c 3 t0) (iblk m c 4 t0) (iblk m c 5 t0) (iblk m c 6 t0)
/-- The value rows the first grid step keeps in scratch. -/
def rowsV (c : Dev nD) : Vec F S2x32x128 .f32 := outA_S2 c t0 hcA (iblk m c 0 t0) (iblk m c 1 t0) (iblk m c 2 t0) (iblk m c 3 t0) (iblk m c 4 t0) (iblk m c 5 t0) (iblk m c 6 t0)
/-- The block of y that point `t` leaves. -/
def yAt (c : Dev nD) (t : Fin cfg0.N) : Vec F S2x32x128 .bf16 :=
  if h : t.val = 0 then outA_7 c t (hcA' t h) (iblk m c 0 t) (iblk m c 1 t) (iblk m c 2 t) (iblk m c 3 t) (iblk m c 4 t) (iblk m c 5 t) (iblk m c 6 t)
  else outB_7 c t (hcB t h) (iblk m c 0 t) (iblk m c 1 t) (iblk m c 2 t) (iblk m c 3 t) (iblk m c 4 t) (iblk m c 5 t) (iblk m c 6 t) (codesK m c) (codesV m c) (rowsK m c) (rowsV m c)

/-- The invariant before position `n`: before the first point every scratch at anything; afterwards the two carried
    buffers at the dequantised new rows. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (rowsK m c) ∗ owns (c : Thread nD τ) scM0_2 fullShare (rowsV m c)) ∗ (∃ r, prngReg c r))

/-- Before the first grid step the scratch holds anything. -/
theorem PhiS_zero (c : Dev nD) (n : ℕ) (h : n ≤ cfg0.N) (hz : n = 0) : PhiS m c n h = Pipeline.ΦA spec0 c := by
  subst hz; rfl
/-- After a grid step the two scratches hold the kept rows. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (rowsK m c) ∗ owns (c : Thread nD τ) scM0_2 fullShare (rowsV m c)) ∗ (∃ r, prngReg c r)) := rfl
/-- At any later point the two scratches hold the kept rows. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (rowsK m c) ∗ owns (c : Thread nD τ) scM0_2 fullShare (rowsV m c)) ∗ (∃ r, prngReg c r)) := by
  cases n with
  | zero => exact absurd rfl hz
  | succ n => rfl

/-- The proof data of the pipeline: each input's buffer at its block, y at `yAt`, the code arrays at the codes of step 0. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yAt m c t
    | ⟨8, _⟩ => codesK m c
    | ⟨9, _⟩ => codesV m c
  Φ t := PhiS m c t.val (Nat.le_of_lt_succ t.isLt)
  q _ := fullShare
  owed _ := 0

/-- The array a window starts with is what the host operations leave there. -/
theorem A_eq (c : Dev nD) (w : Fin cfg0.W) : (dats m 0 c).A w = V m c (Pipeline.arrRef spec0 w) := by
  dsimp only [dats]
/-- The scratch state before a grid step, by the number of the step. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the buffer of window 0 (the key scale) holds after a grid step. -/
theorem after0_0 (c : Dev nD) (t : Fin cfg0.N) : (dats m 0 c).after 0 t = iblk m c 0 t := by dsimp only [dats]
/-- What the buffer of window 1 (the value scale) holds after a grid step. -/
theorem after0_1 (c : Dev nD) (t : Fin cfg0.N) : (dats m 0 c).after 1 t = iblk m c 1 t := by dsimp only [dats]
/-- What the buffer of window 2 (the queries) holds after a grid step. -/
theorem after0_2 (c : Dev nD) (t : Fin cfg0.N) : (dats m 0 c).after 2 t = iblk m c 2 t := by dsimp only [dats]
/-- What the buffer of window 3 (the new keys) holds after a grid step. -/
theorem after0_3 (c : Dev nD) (t : Fin cfg0.N) : (dats m 0 c).after 3 t = iblk m c 3 t := by dsimp only [dats]
/-- What the buffer of window 4 (the new values) holds after a grid step. -/
theorem after0_4 (c : Dev nD) (t : Fin cfg0.N) : (dats m 0 c).after 4 t = iblk m c 4 t := by dsimp only [dats]
/-- What the buffer of window 5 (the key cache) holds after a grid step. -/
theorem after0_5 (c : Dev nD) (t : Fin cfg0.N) : (dats m 0 c).after 5 t = iblk m c 5 t := by dsimp only [dats]
/-- What the buffer of window 6 (the value cache) holds after a grid step. -/
theorem after0_6 (c : Dev nD) (t : Fin cfg0.N) : (dats m 0 c).after 6 t = iblk m c 6 t := by dsimp only [dats]
/-- What the buffer of window 7 (the output) holds after a grid step. -/
theorem after0_7 (c : Dev nD) (t : Fin cfg0.N) : (dats m 0 c).after 7 t = yAt m c t := by dsimp only [dats]
/-- What the buffer of window 8 (the key codes) holds after a grid step. -/
theorem after0_8 (c : Dev nD) (t : Fin cfg0.N) : (dats m 0 c).after 8 t = codesK m c := by dsimp only [dats]
/-- What the buffer of window 9 (the value codes) holds after a grid step. -/
theorem after0_9 (c : Dev nD) (t : Fin cfg0.N) : (dats m 0 c).after 9 t = codesV m c := by dsimp only [dats]
/-- Before a grid step the buffer of window 0 (the key scale) holds its block. -/
theorem before0_0 (c : Dev nD) (t : Fin cfg0.N) (d) : (dats m 0 c).before 0 t d = iblk m c 0 t :=
  before0_0_of m (dats m 0 c) (A_eq m c 0) (after0_0 m c) t d
/-- Before a grid step the buffer of window 1 (the value scale) holds its block. -/
theorem before0_1 (c : Dev nD) (t : Fin cfg0.N) (d) : (dats m 0 c).before 1 t d = iblk m c 1 t :=
  before0_1_of m (dats m 0 c) (A_eq m c 1) (after0_1 m c) t d
/-- Before a grid step the buffer of window 2 (the queries) holds its block. -/
theorem before0_2 (c : Dev nD) (t : Fin cfg0.N) (d) : (dats m 0 c).before 2 t d = iblk m c 2 t :=
  before0_2_of m (dats m 0 c) (A_eq m c 2) (after0_2 m c) t d
/-- Before a grid step the buffer of window 3 (the new keys) holds its block. -/
theorem before0_3 (c : Dev nD) (t : Fin cfg0.N) (d) : (dats m 0 c).before 3 t d = iblk m c 3 t :=
  before0_3_of m (dats m 0 c) (A_eq m c 3) (after0_3 m c) t d
/-- Before a grid step the buffer of window 4 (the new values) holds its block. -/
theorem before0_4 (c : Dev nD) (t : Fin cfg0.N) (d) : (dats m 0 c).before 4 t d = iblk m c 4 t :=
  before0_4_of m (dats m 0 c) (A_eq m c 4) (after0_4 m c) t d
/-- Before a grid step the buffer of window 5 (the key cache) holds its block. -/
theorem before0_5 (c : Dev nD) (t : Fin cfg0.N) (d) : (dats m 0 c).before 5 t d = iblk m c 5 t :=
  before0_5_of m (dats m 0 c) (A_eq m c 5) (after0_5 m c) t d
/-- Before a grid step the buffer of window 6 (the value cache) holds its block. -/
theorem before0_6 (c : Dev nD) (t : Fin cfg0.N) (d) : (dats m 0 c).before 6 t d = iblk m c 6 t :=
  before0_6_of m (dats m 0 c) (A_eq m c 6) (after0_6 m c) t d

/-- Code window 8 is written back after the last point only. -/
theorem flush0_8 (t : Fin cfg0.N) : (cfg0.win 8).flush t = decide (t.val = 15) :=
  (by decide +kernel : ∀ t : Fin grid0.N, win0_8.flush t = decide (t.val = 15)) t
/-- Its buffer holds what step 0 stored at every later point. -/
theorem fresh0_8 (n : ℕ) (h : n ≤ cfg0.N) : cfg0.fresh 8 n = decide (n = 0 ∨ n = 16) := by
  refine cfg0.fresh_tab 8 (fun n => decide (n = 0 ∨ n = 16)) rfl (fun t => ?_) n h
  have hN : t.val < 16 := lt_of_lt_of_eq t.isLt (show cfg0.N = 16 from N_0)
  rw [flush0_8]
  have hi : cfg0.idle 8 (grid0.coords t) = !decide (t.val = 0) := by
    show (!(decide (k0_cond1 (grid0.coords t) = 1#1))) = _
    congr 1
    rw [decide_eq_decide]
    refine (hcond0_0 t).trans ?_; omega
  rw [hi]
  by_cases h0 : t.val = 0
  · simp [h0]
  · by_cases h1 : t.val = 15
    · simp [h1]
    · simp [h0, h1]; omega
/-- Before any later grid step the buffer of window 8 still holds the key codes. -/
theorem before0_8 (c : Dev nD) (t : Fin cfg0.N) (h : t.val ≠ 0) (d) : (dats m 0 c).before 8 t d = codesK m c := by
  have hN : t.val < 16 := lt_of_lt_of_eq t.isLt (show cfg0.N = 16 from N_0)
  rw [(dats m 0 c).before_out_traj 8 rfl (fun _ _ => rfl) (fun t ht _ _ => by rw [after0_8, after0_8]) t.val t rfl d,
    fresh0_8 _ (le_of_lt t.isLt), if_neg (by simp; omega), after0_8]

/-- What the obligation asks of code window 8's buffer after point `t`. -/
def post0_8 (c : Dev nD) (t : Fin cfg0.N) : sProp 𝕄 :=
  match cfg0.idle 8 (cfg0.grid.coords t) with
  | true =>
    match (cfg0.win 8).flush t with
    | false => iprop(∃ d, owns (c : Thread nD τ) (ms0_8 t) fullShare ((dats m 0 c).before 8 t d))
    | true => owns (c : Thread nD τ) (ms0_8 t) fullShare ((dats m 0 c).after 8 t)
  | false => owns (c : Thread nD τ) (ms0_8 t) fullShare ((dats m 0 c).after 8 t)
/-- The buffer of the key codes holding them is what the step must leave. -/
theorem post0_8_of (c : Dev nD) (t : Fin cfg0.N) :
    owns (c : Thread nD τ) (ms0_8 t) fullShare (codesK m c) ⊢ post0_8 m c t := by
  unfold post0_8
  cases hi : cfg0.idle 8 (cfg0.grid.coords t)
  · dsimp only; rw [after0_8]
  · cases hf : (cfg0.win 8).flush t
    · dsimp only
      have h0 : t.val ≠ 0 := fun h => by
        have : cfg0.idle 8 (grid0.coords t) = false := by
          show (!(decide (k0_cond1 (grid0.coords t) = 1#1))) = false
          rw [decide_eq_true (hcA' t h)]; rfl
        exact Bool.false_ne_true (this.symm.trans hi)
      simp only [before0_8 m c t h0]
      iintro H
      iexists (fun _ => Classical.arbitrary _)
      iexact H
    · dsimp only; rw [after0_8]

/-- Code window 9 is written back after the last point only. -/
theorem flush0_9 (t : Fin cfg0.N) : (cfg0.win 9).flush t = decide (t.val = 15) :=
  (by decide +kernel : ∀ t : Fin grid0.N, win0_9.flush t = decide (t.val = 15)) t
/-- Its buffer holds what step 0 stored at every later point. -/
theorem fresh0_9 (n : ℕ) (h : n ≤ cfg0.N) : cfg0.fresh 9 n = decide (n = 0 ∨ n = 16) := by
  refine cfg0.fresh_tab 9 (fun n => decide (n = 0 ∨ n = 16)) rfl (fun t => ?_) n h
  have hN : t.val < 16 := lt_of_lt_of_eq t.isLt (show cfg0.N = 16 from N_0)
  rw [flush0_9]
  have hi : cfg0.idle 9 (grid0.coords t) = !decide (t.val = 0) := by
    show (!(decide (k0_cond1 (grid0.coords t) = 1#1))) = _
    congr 1
    rw [decide_eq_decide]
    refine (hcond0_0 t).trans ?_; omega
  rw [hi]
  by_cases h0 : t.val = 0
  · simp [h0]
  · by_cases h1 : t.val = 15
    · simp [h1]
    · simp [h0, h1]; omega
/-- Before any later grid step the buffer of window 9 still holds the value codes. -/
theorem before0_9 (c : Dev nD) (t : Fin cfg0.N) (h : t.val ≠ 0) (d) : (dats m 0 c).before 9 t d = codesV m c := by
  have hN : t.val < 16 := lt_of_lt_of_eq t.isLt (show cfg0.N = 16 from N_0)
  rw [(dats m 0 c).before_out_traj 9 rfl (fun _ _ => rfl) (fun t ht _ _ => by rw [after0_9, after0_9]) t.val t rfl d,
    fresh0_9 _ (le_of_lt t.isLt), if_neg (by simp; omega), after0_9]

/-- What the obligation asks of code window 9's buffer after point `t`. -/
def post0_9 (c : Dev nD) (t : Fin cfg0.N) : sProp 𝕄 :=
  match cfg0.idle 9 (cfg0.grid.coords t) with
  | true =>
    match (cfg0.win 9).flush t with
    | false => iprop(∃ d, owns (c : Thread nD τ) (ms0_9 t) fullShare ((dats m 0 c).before 9 t d))
    | true => owns (c : Thread nD τ) (ms0_9 t) fullShare ((dats m 0 c).after 9 t)
  | false => owns (c : Thread nD τ) (ms0_9 t) fullShare ((dats m 0 c).after 9 t)
/-- The buffer of the value codes holding them is what the step must leave. -/
theorem post0_9_of (c : Dev nD) (t : Fin cfg0.N) :
    owns (c : Thread nD τ) (ms0_9 t) fullShare (codesV m c) ⊢ post0_9 m c t := by
  unfold post0_9
  cases hi : cfg0.idle 9 (cfg0.grid.coords t)
  · dsimp only; rw [after0_9]
  · cases hf : (cfg0.win 9).flush t
    · dsimp only
      have h0 : t.val ≠ 0 := fun h => by
        have : cfg0.idle 9 (grid0.coords t) = false := by
          show (!(decide (k0_cond1 (grid0.coords t) = 1#1))) = false
          rw [decide_eq_true (hcA' t h)]; rfl
        exact Bool.false_ne_true (this.symm.trans hi)
      simp only [before0_9 m c t h0]
      iintro H
      iexists (fun _ => Classical.arbitrary _)
      iexact H
    · dsimp only; rw [after0_9]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ post0_8 m c t
    ∗ post0_9 m c t)

set_option maxHeartbeats 6400000 in
/-- The body's triple at any point: at the first the step-0 run, afterwards the later-step run over what step 0 left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  by_cases hz : t.val = 0
  · obtain rfl : t = t0 := Fin.ext hz
    rw [PhiS_castSucc m c t0, PhiS_zero m c _ _ rfl, PhiA0_eq]
    rw [show yAt m c t0 = outA_7 c t0 hcA (iblk m c 0 t0) (iblk m c 1 t0) (iblk m c 2 t0) (iblk m c 3 t0) (iblk m c 4 t0) (iblk m c 5 t0) (iblk m c 6 t0) from dif_pos rfl]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c t0 hcA (iblk m c 0 t0) (iblk m c 1 t0) (iblk m c 2 t0) (iblk m c 3 t0) (iblk m c 4 t0) (iblk m c 5 t0) (iblk m c 6 t0)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, ⟨%e7, H7⟩, ⟨%e8, H8⟩, ⟨%e9, H9⟩, ⟨%fT0, HS0⟩, ⟨%es1, HS1⟩, ⟨%es2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · unfold owns; iexists _; isplitr
          swap; · iexact HS1
          ipureintro; unfold rowsK outA_S1; exact View.read_writes_of_cover _ _ _ _ _ (coverA_S1 c t0 hcA (iblk m c 0 t0) (iblk m c 1 t0) (iblk m c 2 t0) (iblk m c 3 t0) (iblk m c 4 t0) (iblk m c 5 t0) (iblk m c 6 t0))
        unfold owns; iexists _; isplitr
        swap; · iexact HS2
        ipureintro; unfold rowsV outA_S2; exact View.read_writes_of_cover _ _ _ _ _ (coverA_S2 c t0 hcA (iblk m c 0 t0) (iblk m c 1 t0) (iblk m c 2 t0) (iblk m c 3 t0) (iblk m c 4 t0) (iblk m c 5 t0) (iblk m c 6 t0))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA_7 c t0 hcA (iblk m c 0 t0) (iblk m c 1 t0) (iblk m c 2 t0) (iblk m c 3 t0) (iblk m c 4 t0) (iblk m c 5 t0) (iblk m c 6 t0))
    isplitl [H8]
    · iapply (post0_8_of m c t0)
      unfold owns; iexists _; isplitr
      swap; · iexact H8
      ipureintro; unfold codesK outA_8; exact View.read_writes_of_cover _ _ _ _ _ (coverA_8 c t0 hcA (iblk m c 0 t0) (iblk m c 1 t0) (iblk m c 2 t0) (iblk m c 3 t0) (iblk m c 4 t0) (iblk m c 5 t0) (iblk m c 6 t0))
    iapply (post0_9_of m c t0)
    unfold owns; iexists _; isplitr
    swap; · iexact H9
    ipureintro; unfold codesV outA_9; exact View.read_writes_of_cover _ _ _ _ _ (coverA_9 c t0 hcA (iblk m c 0 t0) (iblk m c 1 t0) (iblk m c 2 t0) (iblk m c 3 t0) (iblk m c 4 t0) (iblk m c 5 t0) (iblk m c 6 t0))
  · rw [PhiS_castSucc m c t, PhiS_pos m c _ _ hz]
    simp only [before0_8 m c t hz, before0_9 m c t hz]
    rw [show yAt m c t = outB_7 c t (hcB t hz) (iblk m c 0 t) (iblk m c 1 t) (iblk m c 2 t) (iblk m c 3 t) (iblk m c 4 t) (iblk m c 5 t) (iblk m c 6 t) (codesK m c) (codesV m c) (rowsK m c) (rowsV m c) from dif_neg hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c t (hcB t hz) (iblk m c 0 t) (iblk m c 1 t) (iblk m c 2 t) (iblk m c 3 t) (iblk m c 4 t) (iblk m c 5 t) (iblk m c 6 t) (codesK m c) (codesV m c) (rowsK m c) (rowsV m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, ⟨%e7, H7⟩, H8, H9, ⟨%fT0, HS0⟩, HS1, HS2⟩
    isplitl [HS0 HS1 HS2 Hg]
    · isplitl [HS0 HS1 HS2]
      · isplitl [HS0]
        · iexists _; unfold owns; iexists _; isplitr
          swap; · iexact HS0
          ipureintro; rfl
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB_7 c t (hcB t hz) (iblk m c 0 t) (iblk m c 1 t) (iblk m c 2 t) (iblk m c 3 t) (iblk m c 4 t) (iblk m c 5 t) (iblk m c 6 t) (codesK m c) (codesV m c) (rowsK m c) (rowsV m c))
    isplitl [H8]
    · iapply (post0_8_of m c t); iexact H8
    iapply (post0_9_of m c t); iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F`:
    the argument arrays and the semaphore counters after the run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.Printed.lean ====
/- The frame of the kernel as printed: its program is the one proved in `KFrame`, read at the bit-exact instance. -/
module

public import proofs.«01_k».proof.Defs
public import proofs.«01_k».proof.Proof.Gen.Kernel
public import proofs.«01_k».proof.Proof.KFrame

@[expose] public section
set_option maxRecDepth 16384
noncomputable section

namespace Cert.Kernel.Hand
open Idealize.ShloMosaic Idealize.ShloMosaic.TcCoe Idealize.SL.Sem

attribute [local instance] Cert.Kernel.Gen.facts Cert.KernelIdeal.Gen.facts

variable {F : FTy → Type} [FloatOps F]

/-- The kernel's body is the same program in both printings. -/
theorem body_eq : @Cert.Kernel.cc0_gqa_decode_fp8 F _ _ = @Cert.KernelIdeal.cc0_gqa_decode_fp8 F _ _ := rfl

/-- The body tables are the same in both printings. -/
theorem defs₀_eq : Cert.Kernel.defs₀ (F := F) = Cert.KernelIdeal.defs₀ (F := F) := by
  unfold Cert.Kernel.defs₀ Cert.KernelIdeal.defs₀
  refine congrArg Defs.onTc ?_
  funext k x
  match k, x with
  | ⟨0, _⟩, (t, s) => rfl

/-- So are the tables with the pipeline added. -/
theorem defs_eq : Cert.Kernel.defs (F := F) = Cert.KernelIdeal.defs (F := F) :=
  congrArg (Pipeline.defs Cert.KernelIdeal.pcfgs) defs₀_eq

/-- The kernel as printed terminates without fault, its arguments unchanged and its semaphores at zero. -/
theorem frame : Cert.quiescent_Kernel := fun m ρ _ => by
  rw [defs_eq]
  exact Cert.KernelIdeal.Hand.frame (F := Bits) m ρ

end Cert.Kernel.Hand
end
-- ==== Proof.Body.lean ====
module
public import proofs.«01_k».proof.Proof.KFrame
public import Idealize.ShloMosaic.Lib.Pointwise
public import Idealize.ShloMosaic.Lib.Pipeline.ReadBack
@[expose] public section
noncomputable section
namespace Cert.KernelIdeal.Hand
open Cert.KernelIdeal Cert.KernelIdeal.Gen
open Idealize.ShloMosaic Idealize.ShloMosaic.TcCoe

variable {F : FTy → Type} [FloatOps F]

/-! # The body of one sequence as one expression

The kernel's body handles two sequences one after the other, each in eight chunks of 512 tokens. The definitions below
write one chunk's work once; the lemmas say that the named values of the two bodies are these expressions. -/

/-- The codes of one head's chunk, widened and multiplied by the head's scale. -/
def wide (s : FVec F S1x128 .bf16) (x : Vec F S1x1x512x128 .fp8e4m3) : FVec F S512x128 .bf16 :=
  mulf (extf .bf16 (shapeCast S512x128 x shapeCasts_S1x1x512x128_S512x128) bitsLt_fp8e4m3_bf16)
    (broadcastTo S512x128 s broadcasts_S1x128_S512x128)

/-- Both heads' chunks side by side. -/
def both (s0 s1 : FVec F S1x128 .bf16) (x0 x1 : Vec F S1x1x512x128 .fp8e4m3) : FVec F S512x256 .bf16 :=
  concatenate S512x256 1 [⟨S512x128, wide s0 x0⟩, ⟨S512x128, wide s1 x1⟩] concatenates_S512x128_S512x128_S512x256_d1

/-- The scores of a chunk. -/
def score (q2 : FVec F S32x256 .bf16) (k2 : FVec F S512x256 .bf16) : FVec F S32x512 .f32 :=
  mulf (matmul dot_S32x256_S512x256_S32x512_1_1_0_0_n_n none q2 k2 (constant S32x512 .f32 0x00000000#32))
    (broadcast S32x512 (Scalar.ofBits .f32 0x3DB504F3#32))

/-- The query with its rows put into the lanes of their own head, zero in the other head's. -/
def query2 (q : Vec F S1x32x128 .bf16) : FVec F S32x256 .bf16 :=
  concatenate S32x256 1 [⟨S32x128, select k0_pay32 (shapeCast S32x128 q shapeCasts_S1x32x128_S32x128)
      (broadcast S32x128 (Scalar.ofBits .bf16 0x0000#16))⟩,
    ⟨S32x128, select k0_pay32 (broadcast S32x128 (Scalar.ofBits .bf16 0x0000#16))
      (shapeCast S32x128 q shapeCasts_S1x32x128_S32x128)⟩] concatenates_S32x128_S32x128_S32x256_d1

/-- One row per head: the first head's row for the first sixteen rows, the second head's for the rest. -/
def headRows (x0 x1 : Vec F S1x1x128 .f32) : FVec F S32x128 .f32 :=
  select k0_pay32
    (broadcastTo S32x128 (shapeCast S1x128 (shapeCast S1x128 x0 shapeCasts_S1x1x128_S1x128) shapeCasts_S1x128_S1x128) broadcasts_S1x128_S32x128)
    (broadcastTo S32x128 (shapeCast S1x128 (shapeCast S1x128 x1 shapeCasts_S1x1x128_S1x128) shapeCasts_S1x128_S1x128) broadcasts_S1x128_S32x128)

/-- The score of the new token. -/
def scoreNew (q : Vec F S1x32x128 .bf16) (kn : FVec F S32x128 .f32) : FVec F S32x1 .f32 :=
  mulf (shapeCast S32x1 (multiReduction .add [1] S32
      (mulf (extf .f32 (shapeCast S32x128 q shapeCasts_S1x32x128_S32x128 : FVec F S32x128 .bf16) bitsLt_bf16_f32) kn)
      0x00000000#32 reduces_S32x128_S32 (.inl rfl) rfl) shapeCasts_S32_S32x1)
    (broadcast S32x1 (Scalar.ofBits .f32 0x3DB504F3#32))

/-- A chunk's four groups of 128 lanes folded into the running maxima. -/
def maxStep (a : FVec F S32x128 .f32) (s : FVec F S32x512 .f32) : FVec F S32x128 .f32 :=
  maximumf (maximumf (maximumf (maximumf a
    (extractStridedSlice S32x128 ![0, 0] s slices_S32x512_o0_0_S32x128))
    (extractStridedSlice S32x128 ![0, 128] s slices_S32x512_o0_128_S32x128))
    (extractStridedSlice S32x128 ![0, 256] s slices_S32x512_o0_256_S32x128))
    (extractStridedSlice S32x128 ![0, 384] s slices_S32x512_o0_384_S32x128)

/-- A chunk's four groups of 128 lanes added to the running sums. -/
def sumStep (a : FVec F S32x128 .f32) (s : FVec F S32x512 .f32) : FVec F S32x128 .f32 :=
  addf (addf (addf (addf a
    (extractStridedSlice S32x128 ![0, 0] s slices_S32x512_o0_0_S32x128))
    (extractStridedSlice S32x128 ![0, 128] s slices_S32x512_o0_128_S32x128))
    (extractStridedSlice S32x128 ![0, 256] s slices_S32x512_o0_256_S32x128))
    (extractStridedSlice S32x128 ![0, 384] s slices_S32x512_o0_384_S32x128)

/-- The maximum of all scores of a row. -/
def maxAll (sn : FVec F S32x1 .f32) (S : Fin 8 → FVec F S32x512 .f32) : FVec F S32x1 .f32 :=
  maximumf (shapeCast S32x1 (multiReduction .maximumf [1] S32
      (maxStep (maxStep (maxStep (maxStep (maxStep (maxStep (maxStep (maxStep
        (broadcast S32x128 (Scalar.ofBits .f32 0xFF800000#32)) (S 0)) (S 1)) (S 2)) (S 3)) (S 4)) (S 5)) (S 6)) (S 7))
      0xFF800000#32 reduces_S32x128_S32 (.inl rfl) rfl) shapeCasts_S32_S32x1) sn

/-- The exponentials of a chunk's scores, read back from the scratch buffer. -/
def expo (m : FVec F S32x1 .f32) (L : Vec F S1x32x512 .f32) : FVec F S32x512 .f32 :=
  exp (subf (shapeCast S32x512 L shapeCasts_S1x32x512_S32x512) (broadcastTo S32x512 m broadcasts_S32x1_S32x512))

/-- The exponential of the new token's score. -/
def expoNew (sn m : FVec F S32x1 .f32) : FVec F S32x1 .f32 := exp (subf sn m)

/-- The lane-wise sums of all exponentials of a row. -/
def sumLanes (P : Fin 8 → FVec F S32x512 .f32) : FVec F S32x128 .f32 :=
  sumStep (sumStep (sumStep (sumStep (sumStep (sumStep (sumStep (sumStep
    (broadcast S32x128 (Scalar.ofBits .f32 0x00000000#32)) (P 0)) (P 1)) (P 2)) (P 3)) (P 4)) (P 5)) (P 6)) (P 7)

/-- A chunk's weighted values added to the running sum. -/
def accStep (a : FVec F S32x256 .f32) (p : FVec F S32x512 .f32) (v : FVec F S512x256 .bf16) : FVec F S32x256 .f32 :=
  addf a (matmul dot_S32x512_S512x256_S32x256_1_0_0_1_n_n none (truncf .bf16 p bitsLt_bf16_f32) v (constant S32x256 .f32 0x00000000#32))

/-- The weighted values of all chunks. -/
def accAll (P : Fin 8 → FVec F S32x512 .f32) (V : Fin 8 → FVec F S512x256 .bf16) : FVec F S32x256 .f32 :=
  accStep (accStep (accStep (accStep (accStep (accStep (accStep (accStep
    (broadcast S32x256 (Scalar.ofBits .f32 0x00000000#32)) (P 0) (V 0)) (P 1) (V 1)) (P 2) (V 2)) (P 3) (V 3)) (P 4) (V 4))
    (P 5) (V 5)) (P 6) (V 6)) (P 7) (V 7)

/-- The attention output of one sequence from the weights. -/
def outOf (vn : FVec F S32x128 .f32) (l : FVec F S32x128 .f32) (acc : FVec F S32x256 .f32) (pn : FVec F S32x1 .f32) : FVec F S1x32x128 .bf16 :=
  shapeCast S1x32x128 (truncf .bf16 (divf
    (addf (select k0_pay32 (extractStridedSlice S32x128 ![0, 0] acc slices_S32x256_o0_0_S32x128)
        (extractStridedSlice S32x128 ![0, 128] acc slices_S32x256_o0_128_S32x128))
      (mulf (broadcastTo S32x128 (extf .f32 (truncf .bf16 pn bitsLt_bf16_f32) bitsLt_bf16_f32) broadcasts_S32x1_S32x128) vn))
    (broadcastTo S32x128 (addf (shapeCast S32x1 (multiReduction .add [1] S32 l 0x00000000#32 reduces_S32x128_S32 (.inl rfl) rfl)
      shapeCasts_S32_S32x1) pn) broadcasts_S32x1_S32x128)) bitsLt_bf16_f32) shapeCasts_S32x128_S1x32x128

/-- The attention output of one sequence: query block, the new token's widened rows, the two scales of the keys and of the
    values, the sixteen chunks of keys and of values, and the scores as read back from the scratch buffer. -/
def yOf (q : Vec F S1x32x128 .bf16) (kn0 kn1 vn0 vn1 : Vec F S1x1x128 .f32) (ks0 ks1 vs0 vs1 : FVec F S1x128 .bf16)
    (K V : Fin 8 → Fin 2 → Vec F S1x1x512x128 .fp8e4m3) (L : Fin 8 → Vec F S1x32x512 .f32) : FVec F S1x32x128 .bf16 :=
  outOf (headRows vn0 vn1)
    (sumLanes fun k => expo (maxAll (scoreNew q (headRows kn0 kn1)) fun k => score (query2 q) (both ks0 ks1 (K k 0) (K k 1))) (L k))
    (accAll (fun k => expo (maxAll (scoreNew q (headRows kn0 kn1)) fun k => score (query2 q) (both ks0 ks1 (K k 0) (K k 1))) (L k))
      (fun k => both vs0 vs1 (V k 0) (V k 1)))
    (expoNew (scoreNew q (headRows kn0 kn1)) (maxAll (scoreNew q (headRows kn0 kn1)) fun k => score (query2 q) (both ks0 ks1 (K k 0) (K k 1))))

/-! ## The loads -/

/-- A chunk of 512 tokens of one head and one sequence lies inside the cache block. -/
theorem inb_chunk (b h : Fin 2) (k : Fin 8) : ∀ a, (![b.val, h.val, 512 * k.val, 0] : Fin 4 → ℕ) a + S1x1x512x128.size a ≤ S2x2x4096x128.size a := by
  intro a; match a with
  | 0 => show b.val + 1 ≤ 2; omega
  | 1 => show h.val + 1 ≤ 2; omega
  | 2 => show 512 * k.val + 512 ≤ 4096; omega
  | 3 => show 0 + 128 ≤ 128; omega

/-- The slab of one sequence lies inside a block of two. -/
theorem inb_seq (b : Fin 2) : ∀ a, (![b.val, 0, 0] : Fin 3 → ℕ) a + S1x32x128.size a ≤ S2x32x128.size a := by
  intro a; match a with
  | 0 => show b.val + 1 ≤ 2; omega
  | 1 => show 0 + 32 ≤ 32; omega
  | 2 => show 0 + 128 ≤ 128; omega

/-- A chunk of 512 scores of one sequence lies inside the score scratch. -/
theorem inb_back (b : Fin 2) (k : Fin 8) : ∀ a, (![b.val, 0, 512 * k.val] : Fin 3 → ℕ) a + S1x32x512.size a ≤ S2x32x4096.size a := by
  intro a; match a with
  | 0 => show b.val + 1 ≤ 2; omega
  | 1 => show 0 + 32 ≤ 32; omega
  | 2 => show 512 * k.val + 512 ≤ 4096; omega

/-- One head lies inside the pair of scales. -/
theorem inb_one (h : Fin 2) : ∀ a, (![h.val] : Fin 1 → ℕ) a + S1.size a ≤ S2.size a := by
  intro a; match a with
  | 0 => show h.val + 1 ≤ 2; omega

/-- Sequence `b`, head `h`, chunk `k` of a cache block, as loaded. -/
def chunk (a : Memref sig .tc .vmem S2x2x4096x128 .fp8e4m3) (ha : a.IsWhole) (x : Vec F S2x2x4096x128 .fp8e4m3) (b : Fin 2) (k : Fin 8) (h : Fin 2) : Vec F S1x1x512x128 .fp8e4m3 :=
  View.readAt (Elt F) a.view (Rect.unit (s := S2x2x4096x128) ![b.val, h.val, 512 * k.val, 0] S1x1x512x128.size (inb_chunk b h k)).toLoadRect (ha.unread x)

/-- Slab `b` of a 2 x 32 x 128 block, as loaded. -/
def slab {e : EltTy} (a : Memref sig .tc .vmem S2x32x128 e) (ha : a.IsWhole) (x : Vec F S2x32x128 e) (b : Fin 2) : Vec F S1x32x128 e :=
  View.readAt (Elt F) a.view (Rect.unit (s := S2x32x128) ![b.val, 0, 0] S1x32x128.size (inb_seq b)).toLoadRect (ha.unread x)

/-- One row of a 2 x 32 x 128 block, as loaded. -/
def rowAt (a : Memref sig .tc .vmem S2x32x128 .f32) (ha : a.IsWhole) (x : Vec F S2x32x128 .f32) (off : Fin 3 → ℕ)
    (h : ∀ a, off a + S1x1x128.size a ≤ S2x32x128.size a) : Vec F S1x1x128 .f32 :=
  View.readAt (Elt F) a.view (Rect.unit (s := S2x32x128) off S1x1x128.size h).toLoadRect (ha.unread x)

/-- Chunk `k` of sequence `b`'s scores, as read back. -/
def back (v : View sig .tc .vmem S2x32x4096 .f32) (L : List (View.Piece (Elt F) S2x32x4096 .f32)) (b : Fin 2) (k : Fin 8) : Vec F S1x32x512 .f32 :=
  v.readCov L (Rect.unit (s := S2x32x4096) ![b.val, 0, 512 * k.val] S1x32x512.size (inb_back b k)).toLoadRect

/-- The bit pattern of head `h`'s scale, as loaded. -/
def bitsAt (a : Memref sig .tc .smem S2 .i32) (ha : a.IsWhole) (x : Vec F S2 .i32) (h : Fin 2) : Elt F .i32 :=
  View.readAt (Elt F) a.view (Rect.unit (s := S2) ![h.val] S1.size (inb_one h)).toLoadRect (ha.unread x) (Shape.Idx.first (show 0 < S1.numel by decide))

/-! ## The loads as values of the blocks -/

/-- Slab `b` of a block. -/
def slabOf {e : EltTy} (x : Vec F S2x32x128 e) (b : Fin 2) : Vec F S1x32x128 e := fun j => x (ix3 b (j 1) (j 2))
/-- Chunk `k` of sequence `b`, head `h`. -/
def chunkOf (x : Vec F S2x2x4096x128 .fp8e4m3) (b : Fin 2) (k : Fin 8) (h : Fin 2) : Vec F S1x1x512x128 .fp8e4m3 :=
  fun j => x (ix4 b h ⟨512 * k.val + (j 2).val, by have := (j 2).isLt; change (j 2).val < 512 at this; omega⟩ (j 3))
/-- Row `n` of slab `h`. -/
def rowOf (x : Vec F S2x32x128 .f32) (h : Fin 2) (n : Fin 32) : Vec F S1x1x128 .f32 := fun j => x (ix3 h n (j 2))

/-- Reading a slab through a whole reference gives that slab of the vector it holds. -/
theorem slab_eq {e : EltTy} (a : Memref sig .tc .vmem S2x32x128 e) (ha : a.IsWhole) (x : Vec F S2x32x128 e) (b : Fin 2) :
    slab a ha x b = slabOf x b := by
  unfold slab slabOf
  rw [View.readAt_eq_ld, Memref.IsWhole.read_unread]
  funext j
  idx_vars j
  pointwise

/-- Reading a chunk of the cache through a whole reference gives that chunk of the block it holds. -/
theorem chunk_eq (a : Memref sig .tc .vmem S2x2x4096x128 .fp8e4m3) (ha : a.IsWhole) (x : Vec F S2x2x4096x128 .fp8e4m3) (b : Fin 2) (k : Fin 8) (h : Fin 2) :
    chunk a ha x b k h = chunkOf x b k h := by
  unfold chunk chunkOf
  rw [View.readAt_eq_ld, Memref.IsWhole.read_unread]
  funext j
  idx_vars j
  pointwise

/-- The rectangle of one row of slab `h`. -/
theorem ld_row (x : Vec F S2x32x128 .f32) (off : Fin 3 → ℕ) (inb : ∀ a, off a + S1x1x128.size a ≤ S2x32x128.size a) (h : Fin 2) (n : Fin 32)
    (ho : off = ![h.val, n.val, 0]) : View.ld x (Rect.unit (s := S2x32x128) off S1x1x128.size inb) = rowOf x h n := by
  subst ho
  unfold rowOf
  funext j
  idx_vars j
  pointwise

/-- Reading a row of a scratch through a whole reference gives that row of the vector it holds. -/
theorem rowAt_eq (a : Memref sig .tc .vmem S2x32x128 .f32) (ha : a.IsWhole) (x : Vec F S2x32x128 .f32) (off : Fin 3 → ℕ) (inb) (h : Fin 2) (n : Fin 32)
    (ho : off = ![h.val, n.val, 0]) : rowAt a ha x off inb = rowOf x h n := by
  unfold rowAt
  rw [View.readAt_eq_ld, Memref.IsWhole.read_unread]
  exact ld_row x off inb h n ho

/-- Reading the bits of a scale through a whole reference gives the entry of the head. -/
theorem bitsAt_eq (a : Memref sig .tc .smem S2 .i32) (ha : a.IsWhole) (x : Vec F S2 .i32) (h : Fin 2) : bitsAt a ha x h = x (ix1 h) := by
  unfold bitsAt
  rw [View.readAt_eq_ld, Memref.IsWhole.read_unread]
  pointwise

/-! ## The scores stored and read back -/

/-- A chunk's scores as stored. -/
def stored (s : FVec F S32x512 .f32) : Vec F S1x32x512 .f32 := shapeCast S1x32x512 s shapeCasts_S32x512_S1x32x512

/-- The eight stores of one sequence's scores, the last one first. -/
def scorePieces (b : Fin 2) (S : Fin 8 → FVec F S32x512 .f32) : List (View.Piece (Elt F) S2x32x4096 .f32) :=
  let p : Fin 8 → View.Piece (Elt F) S2x32x4096 .f32 := fun k => ⟨Rect.unit (s := S2x32x4096) ![b.val, 0, 512 * k.val] S1x32x512.size (inb_back b k), stored (S k)⟩
  [p 7, p 6, p 5, p 4, p 3, p 2, p 1, p 0]

/-- Reading a chunk back gives what was stored there. -/
theorem back_scorePieces (v : View sig .tc .vmem S2x32x4096 .f32) (b : Fin 2) (S : Fin 8 → FVec F S32x512 .f32) (L : List (View.Piece (Elt F) S2x32x4096 .f32)) (k : Fin 8) :
    back v (scorePieces b S ++ L) b k = stored (S k) := by
  unfold back scorePieces
  match b, k with
  | 0, 0 | 0, 1 | 0, 2 | 0, 3 | 0, 4 | 0, 5 | 0, 6 | 0, 7 | 1, 0 | 1, 1 | 1, 2 | 1, 3 | 1, 4 | 1, 5 | 1, 6 | 1, 7 =>
    simp (disch := decide) only [List.cons_append, ↓ View.readCov_skip, ↓ View.readCov_cons_toLoadRect]

/-- A scale in every lane. -/
def laneScale (v : Elt F .i32) : FVec F S1x128 .bf16 :=
  truncf .bf16 (bitcastToFloat .f32 (broadcast S1x128 v : IVec S1x128 32) : FVec F S1x128 .f32) bitsLt_bf16_f32

end Cert.KernelIdeal.Hand
end
-- ==== Proof.Pieces.lean ====
/- What the two runs of the body store, as expressions in the blocks. -/
module
public import proofs.«01_k».proof.Proof.Body
@[expose] public section
set_option maxRecDepth 16384
noncomputable section
namespace Cert.KernelIdeal.Hand
open Cert.KernelIdeal Cert.KernelIdeal.Gen
open Idealize.ShloMosaic Idealize.ShloMosaic.TcCoe

variable {F : FTy → Type} [FloatOps F]

/-- The later run's stores into the score scratch, after sequence 0. -/
theorem B_HS0_8 (c : Dev nD) (arg1 : Memref sig .tc .smem S2 .i32) (harg1 : arg1.IsWhole) (arg3 : Memref sig .tc .vmem S2x32x128 .bf16) (harg3 : arg3.IsWhole) (arg6 : Memref sig .tc .vmem S2x2x4096x128 .fp8e4m3) (harg6 : arg6.IsWhole) (x0 : Vec F S2 .i32) (x2 : Vec F S2x32x128 .bf16) (x5 : Vec F S2x2x4096x128 .fp8e4m3) :
    kernelRun0_B.sl.HS0_8 (F := F) c arg1 harg1 arg3 harg3 arg6 harg6 x0 x2 x5 =
      scorePieces 0 (fun k => score (query2 (slab arg3 harg3 x2 0)) (both (laneScale (bitsAt arg1 harg1 x0 0)) (laneScale (bitsAt arg1 harg1 x0 1)) (chunk arg6 harg6 x5 0 k 0) (chunk arg6 harg6 x5 0 k 1))) ++ [] := rfl

/-- The later run's stores into the score scratch, after sequence 1. -/
theorem B_HS0_16 (c : Dev nD) (arg1 : Memref sig .tc .smem S2 .i32) (harg1 : arg1.IsWhole) (arg3 : Memref sig .tc .vmem S2x32x128 .bf16) (harg3 : arg3.IsWhole) (arg6 : Memref sig .tc .vmem S2x2x4096x128 .fp8e4m3) (harg6 : arg6.IsWhole) (x0 : Vec F S2 .i32) (x2 : Vec F S2x32x128 .bf16) (x5 : Vec F S2x2x4096x128 .fp8e4m3) :
    kernelRun0_B.sl.HS0_16 (F := F) c arg1 harg1 arg3 harg3 arg6 harg6 x0 x2 x5 =
      scorePieces 1 (fun k => score (query2 (slab arg3 harg3 x2 1)) (both (laneScale (bitsAt arg1 harg1 x0 0)) (laneScale (bitsAt arg1 harg1 x0 1)) (chunk arg6 harg6 x5 1 k 0) (chunk arg6 harg6 x5 1 k 1))) ++ kernelRun0_B.sl.HS0_8 c arg1 harg1 arg3 harg3 arg6 harg6 x0 x2 x5 := rfl

/-- The first run's stores into the score scratch, after sequence 0. -/
theorem A_HS0_8 (c : Dev nD) (arg1 : Memref sig .tc .smem S2 .i32) (harg1 : arg1.IsWhole) (arg3 : Memref sig .tc .vmem S2x32x128 .bf16) (harg3 : arg3.IsWhole) (arg6 : Memref sig .tc .vmem S2x2x4096x128 .fp8e4m3) (harg6 : arg6.IsWhole) (x0 : Vec F S2 .i32) (x2 : Vec F S2x32x128 .bf16) (x5 : Vec F S2x2x4096x128 .fp8e4m3) :
    kernelRun0_A.sl.HS0_8 (F := F) c arg1 harg1 arg3 harg3 arg6 harg6 x0 x2 x5 =
      scorePieces 0 (fun k => score (query2 (slab arg3 harg3 x2 0)) (both (laneScale (bitsAt arg1 harg1 x0 0)) (laneScale (bitsAt arg1 harg1 x0 1)) (chunk arg6 harg6 x5 0 k 0) (chunk arg6 harg6 x5 0 k 1))) ++ [] := rfl

/-- The first run's stores into the score scratch, after sequence 1. -/
theorem A_HS0_16 (c : Dev nD) (arg1 : Memref sig .tc .smem S2 .i32) (harg1 : arg1.IsWhole) (arg3 : Memref sig .tc .vmem S2x32x128 .bf16) (harg3 : arg3.IsWhole) (arg6 : Memref sig .tc .vmem S2x2x4096x128 .fp8e4m3) (harg6 : arg6.IsWhole) (x0 : Vec F S2 .i32) (x2 : Vec F S2x32x128 .bf16) (x5 : Vec F S2x2x4096x128 .fp8e4m3) :
    kernelRun0_A.sl.HS0_16 (F := F) c arg1 harg1 arg3 harg3 arg6 harg6 x0 x2 x5 =
      scorePieces 1 (fun k => score (query2 (slab arg3 harg3 x2 1)) (both (laneScale (bitsAt arg1 harg1 x0 0)) (laneScale (bitsAt arg1 harg1 x0 1)) (chunk arg6 harg6 x5 1 k 0) (chunk arg6 harg6 x5 1 k 1))) ++ kernelRun0_A.sl.HS0_8 c arg1 harg1 arg3 harg3 arg6 harg6 x0 x2 x5 := rfl

/-- What the later run stores into y: one slab per sequence. -/
theorem pieces_B (c : Dev nD) (i : grid0.Coords) (arg1 : Memref sig .tc .smem S2 .i32) (harg1 : arg1.IsWhole) (arg2 : Memref sig .tc .smem S2 .i32) (harg2 : arg2.IsWhole) (arg3 : Memref sig .tc .vmem S2x32x128 .bf16) (harg3 : arg3.IsWhole) (arg4 : Memref sig .tc .vmem S2x32x128 .bf16) (harg4 : arg4.IsWhole) (arg5 : Memref sig .tc .vmem S2x32x128 .bf16) (harg5 : arg5.IsWhole) (arg6 : Memref sig .tc .vmem S2x2x4096x128 .fp8e4m3) (harg6 : arg6.IsWhole) (arg7 : Memref sig .tc .vmem S2x2x4096x128 .fp8e4m3) (harg7 : arg7.IsWhole) (arg8 : Memref sig .tc .vmem S2x32x128 .bf16) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x4096 .f32) (harg11 : arg11.IsWhole) (arg12 : Memref sig .tc .vmem S2x32x128 .f32) (harg12 : arg12.IsWhole) (arg13 : Memref sig .tc .vmem S2x32x128 .f32) (harg13 : arg13.IsWhole) (hc0 : ¬cond0_0 i)
    (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3)  (d8 : Vec F S2x32x128 .fp8e4m3) (d9 : Vec F S2x32x128 .fp8e4m3) (xs1 : Vec F S2x32x128 .f32) (xs2 : Vec F S2x32x128 .f32) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 d8 d9 xs1 xs2).1 =
      [⟨Rect.unit (s := S2x32x128) ![1, 0, 0] ![1, 32, 128] inb_S2x32x128_S1x32x128_1_0_0,
        yOf (slab arg3 harg3 x2 1) (rowAt arg12 harg12 xs1 (k0_off1 i 1#32) (k0_off1_inb i 1)) (rowAt arg12 harg12 xs1 (k0_off2 i 1#32) (k0_off2_inb i 1)) (rowAt arg13 harg13 xs2 (k0_off1 i 1#32) (k0_off1_inb i 1)) (rowAt arg13 harg13 xs2 (k0_off2 i 1#32) (k0_off2_inb i 1)) (laneScale (bitsAt arg1 harg1 x0 0)) (laneScale (bitsAt arg1 harg1 x0 1)) (laneScale (bitsAt arg2 harg2 x1 0)) (laneScale (bitsAt arg2 harg2 x1 1)) (chunk arg6 harg6 x5 1) (chunk arg7 harg7 x6 1) (back arg11.view (kernelRun0_B.sl.HS0_16 c arg1 harg1 arg3 harg3 arg6 harg6 x0 x2 x5) 1)⟩,
       ⟨Rect.unit (s := S2x32x128) ![0, 0, 0] ![1, 32, 128] inb_S2x32x128_S1x32x128_0_0_0,
        yOf (slab arg3 harg3 x2 0) (rowAt arg12 harg12 xs1 (k0_off1 i 0#32) (k0_off1_inb i 0)) (rowAt arg12 harg12 xs1 (k0_off2 i 0#32) (k0_off2_inb i 0)) (rowAt arg13 harg13 xs2 (k0_off1 i 0#32) (k0_off1_inb i 0)) (rowAt arg13 harg13 xs2 (k0_off2 i 0#32) (k0_off2_inb i 0)) (laneScale (bitsAt arg1 harg1 x0 0)) (laneScale (bitsAt arg1 harg1 x0 1)) (laneScale (bitsAt arg2 harg2 x1 0)) (laneScale (bitsAt arg2 harg2 x1 1)) (chunk arg6 harg6 x5 0) (chunk arg7 harg7 x6 0) (back arg11.view (kernelRun0_B.sl.HS0_8 c arg1 harg1 arg3 harg3 arg6 harg6 x0 x2 x5) 0)⟩] := by
  rfl

/-- What the first run stores into y: one slab per sequence. -/
theorem pieces_A (c : Dev nD) (i : grid0.Coords) (arg1 : Memref sig .tc .smem S2 .i32) (harg1 : arg1.IsWhole) (arg2 : Memref sig .tc .smem S2 .i32) (harg2 : arg2.IsWhole) (arg3 : Memref sig .tc .vmem S2x32x128 .bf16) (harg3 : arg3.IsWhole) (arg4 : Memref sig .tc .vmem S2x32x128 .bf16) (harg4 : arg4.IsWhole) (arg5 : Memref sig .tc .vmem S2x32x128 .bf16) (harg5 : arg5.IsWhole) (arg6 : Memref sig .tc .vmem S2x2x4096x128 .fp8e4m3) (harg6 : arg6.IsWhole) (arg7 : Memref sig .tc .vmem S2x2x4096x128 .fp8e4m3) (harg7 : arg7.IsWhole) (arg8 : Memref sig .tc .vmem S2x32x128 .bf16) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x4096 .f32) (harg11 : arg11.IsWhole) (arg12 : Memref sig .tc .vmem S2x32x128 .f32) (harg12 : arg12.IsWhole) (arg13 : Memref sig .tc .vmem S2x32x128 .f32) (harg13 : arg13.IsWhole) (hc0 : cond0_0 i)
    (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 =
      [⟨Rect.unit (s := S2x32x128) ![1, 0, 0] ![1, 32, 128] inb_S2x32x128_S1x32x128_1_0_0,
        yOf (slab arg3 harg3 x2 1) (kernelRun0_A.sl.v508 c i arg1 harg1 arg4 harg4 arg12 x0 x3) (kernelRun0_A.sl.v511 c i arg1 harg1 arg4 harg4 arg12 x0 x3) (kernelRun0_A.sl.v519 c i arg2 harg2 arg5 harg5 arg13 x1 x4) (kernelRun0_A.sl.v522 c i arg2 harg2 arg5 harg5 arg13 x1 x4) (laneScale (bitsAt arg1 harg1 x0 0)) (laneScale (bitsAt arg1 harg1 x0 1)) (laneScale (bitsAt arg2 harg2 x1 0)) (laneScale (bitsAt arg2 harg2 x1 1)) (chunk arg6 harg6 x5 1) (chunk arg7 harg7 x6 1) (back arg11.view (kernelRun0_A.sl.HS0_16 c arg1 harg1 arg3 harg3 arg6 harg6 x0 x2 x5) 1)⟩,
       ⟨Rect.unit (s := S2x32x128) ![0, 0, 0] ![1, 32, 128] inb_S2x32x128_S1x32x128_0_0_0,
        yOf (slab arg3 harg3 x2 0) (kernelRun0_A.sl.v31 c i arg1 harg1 arg4 harg4 arg12 x0 x3) (kernelRun0_A.sl.v34 c i arg1 harg1 arg4 harg4 arg12 x0 x3) (kernelRun0_A.sl.v42 c i arg2 harg2 arg5 harg5 arg13 x1 x4) (kernelRun0_A.sl.v45 c i arg2 harg2 arg5 harg5 arg13 x1 x4) (laneScale (bitsAt arg1 harg1 x0 0)) (laneScale (bitsAt arg1 harg1 x0 1)) (laneScale (bitsAt arg2 harg2 x1 0)) (laneScale (bitsAt arg2 harg2 x1 1)) (chunk arg6 harg6 x5 0) (chunk arg7 harg7 x6 0) (back arg11.view (kernelRun0_A.sl.HS0_8 c arg1 harg1 arg3 harg3 arg6 harg6 x0 x2 x5) 0)⟩] := by
  rfl

/-! ## One sequence from the blocks -/

/-- The scores of chunk `k` of sequence `b`. -/
def scoreOf (x0 : Vec F S2 .i32) (x2 : Vec F S2x32x128 .bf16) (x5 : Vec F S2x2x4096x128 .fp8e4m3) (b : Fin 2) (k : Fin 8) : FVec F S32x512 .f32 :=
  score (query2 (slabOf x2 b)) (both (laneScale (x0 (ix1 0))) (laneScale (x0 (ix1 1))) (chunkOf x5 b k 0) (chunkOf x5 b k 1))

/-- The new token's score of sequence `b`, whose new row is number `n` of `rK`. -/
def scoreNewOf (x2 : Vec F S2x32x128 .bf16) (rK : Vec F S2x32x128 .f32) (b : Fin 2) (n : Fin 32) : FVec F S32x1 .f32 :=
  scoreNew (slabOf x2 b) (headRows (rowOf rK 0 n) (rowOf rK 1 n))

/-- The maximum of sequence `b`'s scores. -/
def maxOf (x0 : Vec F S2 .i32) (x2 : Vec F S2x32x128 .bf16) (x5 : Vec F S2x2x4096x128 .fp8e4m3) (rK : Vec F S2x32x128 .f32) (b : Fin 2) (n : Fin 32) : FVec F S32x1 .f32 :=
  maxAll (scoreNewOf x2 rK b n) (scoreOf x0 x2 x5 b)

/-- The exponentials of chunk `k`. -/
def expOf (x0 : Vec F S2 .i32) (x2 : Vec F S2x32x128 .bf16) (x5 : Vec F S2x2x4096x128 .fp8e4m3) (rK : Vec F S2x32x128 .f32) (b : Fin 2) (n : Fin 32) (k : Fin 8) : FVec F S32x512 .f32 :=
  expo (maxOf x0 x2 x5 rK b n) (stored (scoreOf x0 x2 x5 b k))

/-- The output slab of sequence `b`. -/
def seqOut (x0 x1 : Vec F S2 .i32) (x2 : Vec F S2x32x128 .bf16) (x5 x6 : Vec F S2x2x4096x128 .fp8e4m3) (rK rV : Vec F S2x32x128 .f32) (b : Fin 2) (n : Fin 32) : FVec F S1x32x128 .bf16 :=
  outOf (headRows (rowOf rV 0 n) (rowOf rV 1 n)) (sumLanes (expOf x0 x2 x5 rK b n))
    (accAll (expOf x0 x2 x5 rK b n) fun k => both (laneScale (x1 (ix1 0))) (laneScale (x1 (ix1 1))) (chunkOf x6 b k 0) (chunkOf x6 b k 1))
    (expoNew (scoreNewOf x2 rK b n) (maxOf x0 x2 x5 rK b n))

/-- Sequence `b` of point `i` is number `2 * i + b` of the batch. -/
def seqNo (i : grid0.Coords) (b : Fin 2) : Fin 32 := ⟨2 * (i 0).val + b.val, by have h := (i 0).isLt; change (i 0).val < 16 at h; omega⟩

/-- The offset of the key row the body reads for a sequence: head 0, the number of the sequence. -/
theorem off1_eq (i : grid0.Coords) (b : Fin 2) : k0_off1 i (BitVec.ofNat 32 b.val) = ![(0 : Fin 2).val, (seqNo i b).val, 0] := by
  have h := (i 0).isLt; change (i 0).val < 16 at h
  have hb := b.isLt
  show ![0, (BitVec.ofNat 32 (i 0).val * 2#32 + BitVec.ofNat 32 b.val).toNat, 0] = ![0, 2 * (i 0).val + b.val, 0]
  have : (BitVec.ofNat 32 (i 0).val * 2#32 + BitVec.ofNat 32 b.val).toNat = 2 * (i 0).val + b.val := by
    simp only [BitVec.toNat_add, BitVec.toNat_mul, BitVec.toNat_ofNat]; omega
  rw [this]

/-- The offset of the row the body reads for a sequence at head 1. -/
theorem off2_eq (i : grid0.Coords) (b : Fin 2) : k0_off2 i (BitVec.ofNat 32 b.val) = ![(1 : Fin 2).val, (seqNo i b).val, 0] := by
  have h := (i 0).isLt; change (i 0).val < 16 at h
  have hb := b.isLt
  show ![1, (BitVec.ofNat 32 (i 0).val * 2#32 + BitVec.ofNat 32 b.val).toNat, 0] = ![1, 2 * (i 0).val + b.val, 0]
  have : (BitVec.ofNat 32 (i 0).val * 2#32 + BitVec.ofNat 32 b.val).toNat = 2 * (i 0).val + b.val := by
    simp only [BitVec.toNat_add, BitVec.toNat_mul, BitVec.toNat_ofNat]; omega
  rw [this]

/-- A block from its two slabs. -/
def slabs {e : EltTy} (y : Fin 2 → Vec F S1x32x128 e) : Vec F S2x32x128 e := fun j => y (j 0) (ix3 0 (j 1) (j 2))

/-- Where an index of a slab lies in the block of two. -/
theorem slab_emb (b : Fin 2) (inb) (x1 : Fin 32) (x2 : Fin 128) :
    (Rect.unit (s := S2x32x128) ![b.val, 0, 0] ![1, 32, 128] inb).emb (ix3 (0 : Fin 1) x1 x2) = ix3 b x1 x2 := by
  funext a
  apply Fin.ext
  fin_cases a <;> simp [Rect.emb, Rect.unit]

/-- Two slabs stored one after the other leave the block made of them. -/
theorem canon_slabs {e : EltTy} (y : Fin 2 → Vec F S1x32x128 e) :
    View.canon [(⟨Rect.unit (s := S2x32x128) ![1, 0, 0] ![1, 32, 128] inb_S2x32x128_S1x32x128_1_0_0, y 1⟩ : View.Piece (Elt F) S2x32x128 e),
      ⟨Rect.unit (s := S2x32x128) ![0, 0, 0] ![1, 32, 128] inb_S2x32x128_S1x32x128_0_0_0, y 0⟩] = slabs y := by
  have key : ∀ (b : Fin 2) (inb) (x : S1x32x128.Idx), y b x = slabs y ((Rect.unit (s := S2x32x128) ![b.val, 0, 0] ![1, 32, 128] inb).emb x) := by
    intro b inb x
    idx_vars x
    obtain rfl : x0 = 0 := Subsingleton.elim _ _
    rw [slab_emb]
    rfl
  funext j
  refine View.canon_apply_of_pieces (slabs y) _ ?_ j ?_
  · intro p hp
    rcases List.mem_cons.mp hp with rfl | hp
    · exact key 1 inb_S2x32x128_S1x32x128_1_0_0
    · rcases List.mem_singleton.mp hp with rfl
      exact key 0 inb_S2x32x128_S1x32x128_0_0_0
  · exact View.cover_of_tiledL (s := S2x32x128) _ S1x32x128.size (by sl_kernel_rfl) j

/-- What a later step leaves in its block of y. -/
theorem outB_7_eq (c : Dev nD) (t : Fin cfg0.N) (hc : ¬cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) (d8 : Vec F S2x32x128 .fp8e4m3) (d9 : Vec F S2x32x128 .fp8e4m3) (xs1 : Vec F S2x32x128 .f32) (xs2 : Vec F S2x32x128 .f32) :
    outB_7 c t hc x0 x1 x2 x3 x4 x5 x6 d8 d9 xs1 xs2 = slabs fun b => seqOut x0 x1 x2 x5 x6 xs1 xs2 b (seqNo (grid0.coords t) b) := by
  unfold outB_7
  rw [View.read_writes_junk_eq_canon]
  unfold runB
  rw [pieces_B, ← canon_slabs]
  have hq : ∀ b, slab (ms0_2 t) (hs0_2 t) x2 b = slabOf x2 b := slab_eq _ _ _
  have hk : chunk (ms0_5 t) (hs0_5 t) x5 = chunkOf x5 := by funext b k h; exact chunk_eq _ _ _ _ _ _
  have hv : chunk (ms0_6 t) (hs0_6 t) x6 = chunkOf x6 := by funext b k h; exact chunk_eq _ _ _ _ _ _
  have hS0 : back scM0_0.view (kernelRun0_B.sl.HS0_8 c (ms0_0 t) (hs0_0 t) (ms0_2 t) (hs0_2 t) (ms0_5 t) (hs0_5 t) x0 x2 x5) 0 = fun k => stored (scoreOf x0 x2 x5 0 k) := by
    rw [B_HS0_8]; funext k; rw [back_scorePieces, hk, hq, bitsAt_eq, bitsAt_eq]; rfl
  have hS1 : back scM0_0.view (kernelRun0_B.sl.HS0_16 c (ms0_0 t) (hs0_0 t) (ms0_2 t) (hs0_2 t) (ms0_5 t) (hs0_5 t) x0 x2 x5) 1 = fun k => stored (scoreOf x0 x2 x5 1 k) := by
    rw [B_HS0_16]; funext k; rw [back_scorePieces, hk, hq, bitsAt_eq, bitsAt_eq]; rfl
  have r001 : ∀ inb, rowAt scM0_1 (Memref.isWhole_whole _) xs1 (k0_off1 (grid0.coords t) 0#32) inb = rowOf xs1 0 (seqNo (grid0.coords t) 0) := fun inb => rowAt_eq _ _ xs1 _ inb 0 _ (off1_eq _ 0)
  have r002 : ∀ inb, rowAt scM0_2 (Memref.isWhole_whole _) xs2 (k0_off1 (grid0.coords t) 0#32) inb = rowOf xs2 0 (seqNo (grid0.coords t) 0) := fun inb => rowAt_eq _ _ xs2 _ inb 0 _ (off1_eq _ 0)
  have r011 : ∀ inb, rowAt scM0_1 (Memref.isWhole_whole _) xs1 (k0_off1 (grid0.coords t) 1#32) inb = rowOf xs1 0 (seqNo (grid0.coords t) 1) := fun inb => rowAt_eq _ _ xs1 _ inb 0 _ (off1_eq _ 1)
  have r012 : ∀ inb, rowAt scM0_2 (Memref.isWhole_whole _) xs2 (k0_off1 (grid0.coords t) 1#32) inb = rowOf xs2 0 (seqNo (grid0.coords t) 1) := fun inb => rowAt_eq _ _ xs2 _ inb 0 _ (off1_eq _ 1)
  have r101 : ∀ inb, rowAt scM0_1 (Memref.isWhole_whole _) xs1 (k0_off2 (grid0.coords t) 0#32) inb = rowOf xs1 1 (seqNo (grid0.coords t) 0) := fun inb => rowAt_eq _ _ xs1 _ inb 1 _ (off2_eq _ 0)
  have r102 : ∀ inb, rowAt scM0_2 (Memref.isWhole_whole _) xs2 (k0_off2 (grid0.coords t) 0#32) inb = rowOf xs2 1 (seqNo (grid0.coords t) 0) := fun inb => rowAt_eq _ _ xs2 _ inb 1 _ (off2_eq _ 0)
  have r111 : ∀ inb, rowAt scM0_1 (Memref.isWhole_whole _) xs1 (k0_off2 (grid0.coords t) 1#32) inb = rowOf xs1 1 (seqNo (grid0.coords t) 1) := fun inb => rowAt_eq _ _ xs1 _ inb 1 _ (off2_eq _ 1)
  have r112 : ∀ inb, rowAt scM0_2 (Memref.isWhole_whole _) xs2 (k0_off2 (grid0.coords t) 1#32) inb = rowOf xs2 1 (seqNo (grid0.coords t) 1) := fun inb => rowAt_eq _ _ xs2 _ inb 1 _ (off2_eq _ 1)
  rw [hS0, hS1, hk, hv, hq, hq, bitsAt_eq, bitsAt_eq, bitsAt_eq, bitsAt_eq, r001, r002, r011, r012, r101, r102, r111, r112]
  rfl

/-! ## The new rows of step 0 -/

/-- The codes of one head's new rows. -/
def codeSlab (bits : Elt F .i32) (x : Vec F S1x32x128 .bf16) : FVec F S1x32x128 .fp8e4m3 := k0_pay3 (k0_pay21 bits) x
/-- One head's new rows read back from their codes. -/
def rowSlab (bits : Elt F .i32) (x : Vec F S1x32x128 .bf16) : FVec F S1x32x128 .f32 := k0_pay4 (k0_pay21 bits) (laneScale bits) x

/-- What step 0 leaves in the k codes. -/
theorem outA_8_eq (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :
    outA_8 c t hc x0 x1 x2 x3 x4 x5 x6 = slabs fun h => codeSlab (x0 (ix1 h)) (slabOf x3 h) := by
  unfold outA_8
  rw [View.read_writes_junk_eq_canon]
  have e : (runA c t hc x0 x1 x2 x3 x4 x5 x6).2.1 = [⟨Rect.unit (s := S2x32x128) ![1, 0, 0] ![1, 32, 128] inb_S2x32x128_S1x32x128_1_0_0, codeSlab (bitsAt (ms0_0 t) (hs0_0 t) x0 1) (slab (ms0_3 t) (hs0_3 t) x3 1)⟩,
      ⟨Rect.unit (s := S2x32x128) ![0, 0, 0] ![1, 32, 128] inb_S2x32x128_S1x32x128_0_0_0, codeSlab (bitsAt (ms0_0 t) (hs0_0 t) x0 0) (slab (ms0_3 t) (hs0_3 t) x3 0)⟩] := rfl
  rw [e, bitsAt_eq, bitsAt_eq, slab_eq, slab_eq, ← canon_slabs]

/-- What step 0 leaves in the v codes. -/
theorem outA_9_eq (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :
    outA_9 c t hc x0 x1 x2 x3 x4 x5 x6 = slabs fun h => codeSlab (x1 (ix1 h)) (slabOf x4 h) := by
  unfold outA_9
  rw [View.read_writes_junk_eq_canon]
  have e : (runA c t hc x0 x1 x2 x3 x4 x5 x6).2.2.1 = [⟨Rect.unit (s := S2x32x128) ![1, 0, 0] ![1, 32, 128] inb_S2x32x128_S1x32x128_1_0_0, codeSlab (bitsAt (ms0_1 t) (hs0_1 t) x1 1) (slab (ms0_4 t) (hs0_4 t) x4 1)⟩,
      ⟨Rect.unit (s := S2x32x128) ![0, 0, 0] ![1, 32, 128] inb_S2x32x128_S1x32x128_0_0_0, codeSlab (bitsAt (ms0_1 t) (hs0_1 t) x1 0) (slab (ms0_4 t) (hs0_4 t) x4 0)⟩] := rfl
  rw [e, bitsAt_eq, bitsAt_eq, slab_eq, slab_eq, ← canon_slabs]

/-- What step 0 leaves in the new k rows. -/
theorem outA_S1_eq (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :
    outA_S1 c t hc x0 x1 x2 x3 x4 x5 x6 = slabs fun h => rowSlab (x0 (ix1 h)) (slabOf x3 h) := by
  unfold outA_S1
  rw [View.read_writes_junk_eq_canon]
  have e : (runA c t hc x0 x1 x2 x3 x4 x5 x6).2.2.2.1 = [⟨Rect.unit (s := S2x32x128) ![1, 0, 0] ![1, 32, 128] inb_S2x32x128_S1x32x128_1_0_0, rowSlab (bitsAt (ms0_0 t) (hs0_0 t) x0 1) (slab (ms0_3 t) (hs0_3 t) x3 1)⟩,
      ⟨Rect.unit (s := S2x32x128) ![0, 0, 0] ![1, 32, 128] inb_S2x32x128_S1x32x128_0_0_0, rowSlab (bitsAt (ms0_0 t) (hs0_0 t) x0 0) (slab (ms0_3 t) (hs0_3 t) x3 0)⟩] := rfl
  rw [e, bitsAt_eq, bitsAt_eq, slab_eq, slab_eq, ← canon_slabs]

/-- What step 0 leaves in the new v rows. -/
theorem outA_S2_eq (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :
    outA_S2 c t hc x0 x1 x2 x3 x4 x5 x6 = slabs fun h => rowSlab (x1 (ix1 h)) (slabOf x4 h) := by
  unfold outA_S2
  rw [View.read_writes_junk_eq_canon]
  have e : (runA c t hc x0 x1 x2 x3 x4 x5 x6).2.2.2.2.1 = [⟨Rect.unit (s := S2x32x128) ![1, 0, 0] ![1, 32, 128] inb_S2x32x128_S1x32x128_1_0_0, rowSlab (bitsAt (ms0_1 t) (hs0_1 t) x1 1) (slab (ms0_4 t) (hs0_4 t) x4 1)⟩,
      ⟨Rect.unit (s := S2x32x128) ![0, 0, 0] ![1, 32, 128] inb_S2x32x128_S1x32x128_0_0_0, rowSlab (bitsAt (ms0_1 t) (hs0_1 t) x1 0) (slab (ms0_4 t) (hs0_4 t) x4 0)⟩] := rfl
  rw [e, bitsAt_eq, bitsAt_eq, slab_eq, slab_eq, ← canon_slabs]

set_option maxHeartbeats 2000000 in
/-- What step 0 leaves in its block of y. -/
theorem outA_7_eq (c : Dev nD) (t : Fin cfg0.N) (hc : cond0_0 (grid0.coords t)) (x0 : Vec F S2 .i32) (x1 : Vec F S2 .i32) (x2 : Vec F S2x32x128 .bf16) (x3 : Vec F S2x32x128 .bf16) (x4 : Vec F S2x32x128 .bf16) (x5 : Vec F S2x2x4096x128 .fp8e4m3) (x6 : Vec F S2x2x4096x128 .fp8e4m3) :
    outA_7 c t hc x0 x1 x2 x3 x4 x5 x6 = slabs fun b => seqOut x0 x1 x2 x5 x6 (outA_S1 c t hc x0 x1 x2 x3 x4 x5 x6) (outA_S2 c t hc x0 x1 x2 x3 x4 x5 x6) b (seqNo (grid0.coords t) b) := by
  unfold outA_7
  rw [View.read_writes_junk_eq_canon]
  unfold runA
  rw [pieces_A, ← canon_slabs]
  have hq : ∀ b, slab (ms0_2 t) (hs0_2 t) x2 b = slabOf x2 b := slab_eq _ _ _
  have hk : chunk (ms0_5 t) (hs0_5 t) x5 = chunkOf x5 := by funext b k h; exact chunk_eq _ _ _ _ _ _
  have hv : chunk (ms0_6 t) (hs0_6 t) x6 = chunkOf x6 := by funext b k h; exact chunk_eq _ _ _ _ _ _
  have hS0 : back scM0_0.view (kernelRun0_A.sl.HS0_8 c (ms0_0 t) (hs0_0 t) (ms0_2 t) (hs0_2 t) (ms0_5 t) (hs0_5 t) x0 x2 x5) 0 = fun k => stored (scoreOf x0 x2 x5 0 k) := by
    rw [A_HS0_8]; funext k; rw [back_scorePieces, hk, hq, bitsAt_eq, bitsAt_eq]; rfl
  have hS1 : back scM0_0.view (kernelRun0_A.sl.HS0_16 c (ms0_0 t) (hs0_0 t) (ms0_2 t) (hs0_2 t) (ms0_5 t) (hs0_5 t) x0 x2 x5) 1 = fun k => stored (scoreOf x0 x2 x5 1 k) := by
    rw [A_HS0_16]; funext k; rw [back_scorePieces, hk, hq, bitsAt_eq, bitsAt_eq]; rfl
  have r001 : kernelRun0_A.sl.v31 c (grid0.coords t) (ms0_0 t) (hs0_0 t) (ms0_3 t) (hs0_3 t) scM0_1 x0 x3 = rowOf (outA_S1 c t hc x0 x1 x2 x3 x4 x5 x6) 0 (seqNo (grid0.coords t) 0) := by
    unfold outA_S1 kernelRun0_A.sl.v31
    rw [View.read_writes_junk_eq_canon, View.readAt_writes_junk_eq_canon]
    exact ld_row _ _ _ 0 _ (off1_eq _ 0)
  have r101 : kernelRun0_A.sl.v34 c (grid0.coords t) (ms0_0 t) (hs0_0 t) (ms0_3 t) (hs0_3 t) scM0_1 x0 x3 = rowOf (outA_S1 c t hc x0 x1 x2 x3 x4 x5 x6) 1 (seqNo (grid0.coords t) 0) := by
    unfold outA_S1 kernelRun0_A.sl.v34
    rw [View.read_writes_junk_eq_canon, View.readAt_writes_junk_eq_canon]
    exact ld_row _ _ _ 1 _ (off2_eq _ 0)
  have r002 : kernelRun0_A.sl.v42 c (grid0.coords t) (ms0_1 t) (hs0_1 t) (ms0_4 t) (hs0_4 t) scM0_2 x1 x4 = rowOf (outA_S2 c t hc x0 x1 x2 x3 x4 x5 x6) 0 (seqNo (grid0.coords t) 0) := by
    unfold outA_S2 kernelRun0_A.sl.v42
    rw [View.read_writes_junk_eq_canon, View.readAt_writes_junk_eq_canon]
    exact ld_row _ _ _ 0 _ (off1_eq _ 0)
  have r102 : kernelRun0_A.sl.v45 c (grid0.coords t) (ms0_1 t) (hs0_1 t) (ms0_4 t) (hs0_4 t) scM0_2 x1 x4 = rowOf (outA_S2 c t hc x0 x1 x2 x3 x4 x5 x6) 1 (seqNo (grid0.coords t) 0) := by
    unfold outA_S2 kernelRun0_A.sl.v45
    rw [View.read_writes_junk_eq_canon, View.readAt_writes_junk_eq_canon]
    exact ld_row _ _ _ 1 _ (off2_eq _ 0)
  have r011 : kernelRun0_A.sl.v508 c (grid0.coords t) (ms0_0 t) (hs0_0 t) (ms0_3 t) (hs0_3 t) scM0_1 x0 x3 = rowOf (outA_S1 c t hc x0 x1 x2 x3 x4 x5 x6) 0 (seqNo (grid0.coords t) 1) := by
    unfold outA_S1 kernelRun0_A.sl.v508
    rw [View.read_writes_junk_eq_canon, View.readAt_writes_junk_eq_canon]
    exact ld_row _ _ _ 0 _ (off1_eq _ 1)
  have r111 : kernelRun0_A.sl.v511 c (grid0.coords t) (ms0_0 t) (hs0_0 t) (ms0_3 t) (hs0_3 t) scM0_1 x0 x3 = rowOf (outA_S1 c t hc x0 x1 x2 x3 x4 x5 x6) 1 (seqNo (grid0.coords t) 1) := by
    unfold outA_S1 kernelRun0_A.sl.v511
    rw [View.read_writes_junk_eq_canon, View.readAt_writes_junk_eq_canon]
    exact ld_row _ _ _ 1 _ (off2_eq _ 1)
  have r012 : kernelRun0_A.sl.v519 c (grid0.coords t) (ms0_1 t) (hs0_1 t) (ms0_4 t) (hs0_4 t) scM0_2 x1 x4 = rowOf (outA_S2 c t hc x0 x1 x2 x3 x4 x5 x6) 0 (seqNo (grid0.coords t) 1) := by
    unfold outA_S2 kernelRun0_A.sl.v519
    rw [View.read_writes_junk_eq_canon, View.readAt_writes_junk_eq_canon]
    exact ld_row _ _ _ 0 _ (off1_eq _ 1)
  have r112 : kernelRun0_A.sl.v522 c (grid0.coords t) (ms0_1 t) (hs0_1 t) (ms0_4 t) (hs0_4 t) scM0_2 x1 x4 = rowOf (outA_S2 c t hc x0 x1 x2 x3 x4 x5 x6) 1 (seqNo (grid0.coords t) 1) := by
    unfold outA_S2 kernelRun0_A.sl.v522
    rw [View.read_writes_junk_eq_canon, View.readAt_writes_junk_eq_canon]
    exact ld_row _ _ _ 1 _ (off2_eq _ 1)
  rw [hS0, hS1, hk, hv, hq, hq, bitsAt_eq, bitsAt_eq, bitsAt_eq, bitsAt_eq, r001, r002, r011, r012, r101, r102, r111, r112]
  rfl

variable (m : (ℓ : Loc nD τ sig) → Buf (Elt F) ℓ)

/-- The codes and the rows read back from them, of the arguments' blocks. -/
theorem codesK_eq (c : Dev nD) : codesK m c = slabs fun h => codeSlab ((iblk m c 0 t0 : Vec F S2 .i32) (ix1 h)) (slabOf (iblk m c 3 t0) h) := outA_8_eq ..
/-- The value codes, as the slabs the body computes head by head. -/
theorem codesV_eq (c : Dev nD) : codesV m c = slabs fun h => codeSlab ((iblk m c 1 t0 : Vec F S2 .i32) (ix1 h)) (slabOf (iblk m c 4 t0) h) := outA_9_eq ..
/-- The kept key rows, as the slabs the body computes head by head. -/
theorem rowsK_eq (c : Dev nD) : rowsK m c = slabs fun h => rowSlab ((iblk m c 0 t0 : Vec F S2 .i32) (ix1 h)) (slabOf (iblk m c 3 t0) h) := outA_S1_eq ..
/-- The kept value rows, as the slabs the body computes head by head. -/
theorem rowsV_eq (c : Dev nD) : rowsV m c = slabs fun h => rowSlab ((iblk m c 1 t0 : Vec F S2 .i32) (ix1 h)) (slabOf (iblk m c 4 t0) h) := outA_S2_eq ..

/-- Every point leaves in its block of y the two output slabs of its sequences. -/
theorem yAt_eq (c : Dev nD) (t : Fin cfg0.N) :
    yAt m c t = slabs fun b => seqOut (iblk m c 0 t) (iblk m c 1 t) (iblk m c 2 t) (iblk m c 5 t) (iblk m c 6 t) (rowsK m c) (rowsV m c) b (seqNo (grid0.coords t) b) := by
  unfold yAt
  split
  · rename_i h
    obtain rfl : t = t0 := Fin.ext h
    exact outA_7_eq ..
  · exact outB_7_eq ..

end Cert.KernelIdeal.Hand
end
-- ==== Proof.KValue.lean ====
/- The kernel's blocks at an index, and its result arrays after the run. -/
module
public import proofs.«01_k».proof.Proof.Pieces
public import Idealize.ShloMosaic.Lib.Pipeline.ValueKit
@[expose] public section
set_option maxRecDepth 16384
noncomputable section
namespace Cert.KernelIdeal.Hand
open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The block index of each window at each grid step, by computation. -/
theorem idx_in : ∀ t : Fin grid0.N, win0_0.index t = ![0] ∧ win0_1.index t = ![0] ∧ win0_2.index t = ![t.val, 0, 0] ∧ win0_3.index t = ![0, 0, 0] ∧ win0_4.index t = ![0, 0, 0] ∧ win0_5.index t = ![t.val, 0, 0, 0] ∧ win0_6.index t = ![t.val, 0, 0, 0] ∧ win0_7.index t = ![t.val, 0, 0] ∧ win0_8.index t = ![0, 0, 0] ∧ win0_9.index t = ![0, 0, 0] ∧ ((grid0.coords t) 0).val = t.val := by decide +kernel

/-- An entry of the block of the key scale at a grid step is the entry of the argument it comes from. -/
theorem iblk0 (c : Dev nD) (t : Fin cfg0.N) (h : Fin 2) : (iblk m c 0 t : Vec F S2 .i32) (ix1 h) = m ((c : Thread nD τ).loc main_arg4) (ix1 h) := by
  blk_ext [iblk, V, idx_in t]

/-- An entry of the block of the value scale at a grid step is the entry of the argument it comes from. -/
theorem iblk1 (c : Dev nD) (t : Fin cfg0.N) (h : Fin 2) : (iblk m c 1 t : Vec F S2 .i32) (ix1 h) = m ((c : Thread nD τ).loc main_arg6) (ix1 h) := by
  blk_ext [iblk, V, idx_in t]

/-- An entry of the block of the queries at a grid step is the entry of the argument it comes from. -/
theorem iblk2 (c : Dev nD) (t : Fin cfg0.N) (b : Fin 2) (r : Fin 32) (d : Fin 128) : (iblk m c 2 t : Vec F S2x32x128 .bf16) (ix3 b r d)
    = m ((c : Thread nD τ).loc main_arg0) (ix3 (seqNo (grid0.coords t) b) 0 ⟨128 * r.val + d.val, by omega⟩) := by
  blk_simp [iblk, idx_in t]
  entry_read
  pointwise
  unfold seqNo
  blk_ext [idx_in t]

/-- An entry of the block of the new keys at a grid step is the entry of the argument it comes from. -/
theorem iblk3 (c : Dev nD) (t : Fin cfg0.N) (h : Fin 2) (n : Fin 32) (d : Fin 128) : (iblk m c 3 t : Vec F S2x32x128 .bf16) (ix3 h n d)
    = m ((c : Thread nD τ).loc main_arg1) (ix4 n 0 h d) := by
  blk_simp [iblk, idx_in t]
  entry_read
  pointwise
  blk_ext [idx_in t]

/-- An entry of the block of the new values at a grid step is the entry of the argument it comes from. -/
theorem iblk4 (c : Dev nD) (t : Fin cfg0.N) (h : Fin 2) (n : Fin 32) (d : Fin 128) : (iblk m c 4 t : Vec F S2x32x128 .bf16) (ix3 h n d)
    = m ((c : Thread nD τ).loc main_arg2) (ix4 n 0 h d) := by
  blk_simp [iblk, idx_in t]
  entry_read
  pointwise
  blk_ext [idx_in t]

/-- An entry of the block of the key cache at a grid step is the entry of the argument it comes from. -/
theorem iblk5 (c : Dev nD) (t : Fin cfg0.N) (b h : Fin 2) (s : Fin 4096) (d : Fin 128) : (iblk m c 5 t : Vec F S2x2x4096x128 .fp8e4m3) (ix4 b h s d)
    = m ((c : Thread nD τ).loc main_arg3) (ix4 (seqNo (grid0.coords t) b) s h d) := by
  blk_simp [iblk, idx_in t]
  entry_read
  pointwise
  unfold seqNo
  blk_ext [idx_in t]

/-- An entry of the block of the value cache at a grid step is the entry of the argument it comes from. -/
theorem iblk6 (c : Dev nD) (t : Fin cfg0.N) (b h : Fin 2) (s : Fin 4096) (d : Fin 128) : (iblk m c 6 t : Vec F S2x2x4096x128 .fp8e4m3) (ix4 b h s d)
    = m ((c : Thread nD τ).loc main_arg5) (ix4 (seqNo (grid0.coords t) b) s h d) := by
  blk_simp [iblk, idx_in t]
  entry_read
  pointwise
  unfold seqNo
  blk_ext [idx_in t]

/-- The array y after the run: row block `n` is what point `n / 2` left for its sequence `n % 2`. -/
theorem arr7 (c : Dev nD) : (dats m 0 c).arrAt 7 cfg0.N = fun i : S32x32x128.Idx =>
    yAt m c ⟨(i 0).val / 2, by have h := (i 0).isLt; change (i 0).val < 32 at h; show _ < cfg0.N; rw [show cfg0.N = 16 from N_0]; omega⟩ (ix3 (⟨(i 0).val % 2, Nat.mod_lt _ (by decide)⟩ : Fin 2) (i 1) (i 2)) := by
  refine (dats m 0 c).arrAt_eq_of_covers 7 _ (by decide +kernel) fun t hf y => ?_
  blk_simp
  rw [after0_7]
  change S2x32x128.Idx at y
  idx_vars y
  have hi : win0_7.index t 0 = t.val := by rw [(idx_in t).2.2.2.2.2.2.2.1]; rfl
  have key : ∀ (t' : Fin cfg0.N) (y' : S2x32x128.Idx), t' = t → y' = ix3 y0 y1 y2 → yAt m c t (ix3 y0 y1 y2) = yAt m c t' y' := by
    rintro _ _ rfl rfl; rfl
  refine key _ _ (Fin.ext ?_) ?_
  · show (win0_7.index t 0 * 2 + y0.val) / 2 = t.val
    rw [hi]; omega
  · blk_ext [idx_in t]

/-- The code arrays after the run. -/
theorem arr8 (c : Dev nD) : (dats m 0 c).arrAt 8 cfg0.N = codesK m c := by
  refine (dats m 0 c).arrAt_eq_of_covers 8 _ (by decide +kernel) fun t hf y => ?_
  blk_simp
  rw [after0_8]
  blk_ext [idx_in t]

/-- After the run the array of window 9 holds the value codes. -/
theorem arr9 (c : Dev nD) : (dats m 0 c).arrAt 9 cfg0.N = codesV m c := by
  refine (dats m 0 c).arrAt_eq_of_covers 9 _ (by decide +kernel) fun t hf y => ?_
  blk_simp
  rw [after0_9]
  blk_ext [idx_in t]

/-- The kernel's run: its three result arrays named, the arguments unchanged. -/
theorem run_value : θ_run defs (onTc (τ := τ) (main (F := F))) ⟨m, fun _ => 0, ρ⟩ fun r => ∀ c : Dev nD,
      r.2.mem ((c : Thread nD τ).loc main_v7_0) = (fun i : S32x32x128.Idx =>
        yAt m c ⟨(i 0).val / 2, by have h := (i 0).isLt; change (i 0).val < 32 at h; show _ < cfg0.N; rw [show cfg0.N = 16 from N_0]; omega⟩ (ix3 (⟨(i 0).val % 2, Nat.mod_lt _ (by decide)⟩ : Fin 2) (i 1) (i 2)))
      ∧ r.2.mem ((c : Thread nD τ).loc main_v7_1) = codesK m c
      ∧ r.2.mem ((c : Thread nD τ).loc main_v7_2) = codesV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (arr7 m c), ((h c).1 8).trans (arr8 m c), ((h c).1 9).trans (arr9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 0).trans (((dats m 0 c).arrAt_in 0 rfl _).trans ((A_eq m c 0).trans (V_main_arg4 m c))),
      ((h c).2 main_arg5 (Pipeline.mem_restRefs_of main_arg5 (by decide) (by decide))).trans (V_main_arg5 m c),
      ((h c).1 1).trans (((dats m 0 c).arrAt_in 1 rfl _).trans ((A_eq m c 1).trans (V_main_arg6 m c)))⟩)
    (run_main m ρ)

end Cert.KernelIdeal.Hand
end
-- ==== Proof.SeqValue.lean ====
/- One sequence's output at an index, over the extended reals. -/
module
public import proofs.«01_k».proof.Proof.KValue
public import Idealize.ShloMosaic.PureOps.Ideal
public import Idealize.ShloMosaic.Lib.Pipeline.ValueKit
@[expose] public section
set_option maxRecDepth 16384
noncomputable section
namespace Cert.KernelIdeal.Hand
open Cert.KernelIdeal Cert.KernelIdeal.Gen
open Idealize.ShloMosaic Idealize.ShloMosaic.TcCoe

/-- The head that row `r` of a sequence's 32 query rows belongs to. -/
def hd (r : Fin 32) : Fin 2 := ⟨r.val / 16, by omega⟩

/-- The first sixteen rows belong to head 0. -/
theorem hd_lo (r : Fin 32) (h : r.val < 16) : hd r = 0 := Fin.ext (by show r.val / 16 = 0; omega)
/-- The other rows belong to head 1. -/
theorem hd_hi (r : Fin 32) (h : ¬r.val < 16) : hd r = 1 := Fin.ext (by show r.val / 16 = 1; omega)

/-- The kernel's row mask picks the first head's rows. -/
theorem mask_ix (r : Fin 32) (d : Fin 128) : k0_pay32 (ix2 r d) = if r.val < 16 then 1#1 else 0#1 := by
  unfold k0_pay32
  pointwise
  revert r
  decide

/-- Selecting by the mask is taking the row's own head. -/
theorem select_ix {α : Type} (f : Fin 2 → α) (r : Fin 32) (d : Fin 128) : Scalar.select (k0_pay32 (ix2 r d)) (f 0) (f 1) = f (hd r) := by
  rw [mask_ix]
  by_cases h : r.val < 16
  · rw [if_pos h, hd_lo r h]; rfl
  · rw [if_neg h, hd_hi r h]; rfl

/-- The constant that scales the scores. -/
def sm : EReal := Ideal.ofBits .f32 0x3DB504F3#32

/-- A chunk's score: the contraction over both heads' lanes is the one over the own head's. -/
theorem score_ix (q : Vec Ideal S1x32x128 .bf16) (s : Fin 2 → FVec Ideal S1x128 .bf16) (x : Fin 2 → Vec Ideal S1x1x512x128 .fp8e4m3) (r : Fin 32) (t : Fin 512) :
    score (query2 q) (both (s 0) (s 1) (x 0) (x 1)) (ix2 r t) = (∑ d : Fin 128, q (ix3 0 r d) * (x (hd r) (ix4 0 0 t d) * s (hd r) (ix2 0 d))) * sm := by
  pointwise [score, query2, both, wide]
  simp only [mask_ix]
  unfold sm
  by_cases h : r.val < 16
  · simp only [if_pos h, hd_lo r h, Scalar.select]
    simp
  · simp only [if_neg h, hd_hi r h, Scalar.select]
    simp

/-- The new token's score. -/
theorem scoreNew_ix (q : Vec Ideal S1x32x128 .bf16) (kn : Fin 2 → FVec Ideal S1x1x128 .f32) (r : Fin 32) :
    scoreNew q (headRows (kn 0) (kn 1)) (ix2 r 0) = (∑ d : Fin 128, q (ix3 0 r d) * kn (hd r) (ix3 0 0 d)) * sm := by
  pointwise [scoreNew, headRows]
  unfold sm
  congr 1
  exact Finset.sum_congr rfl fun d _ => by rw [select_ix (fun h => kn h (ix3 0 0 d))]

/-- The output from the weights' sums. -/
theorem outOf_ix (vn : Fin 2 → FVec Ideal S1x1x128 .f32) (l : FVec Ideal S32x128 .f32) (acc : FVec Ideal S32x256 .f32) (pn : FVec Ideal S32x1 .f32) (r : Fin 32) (d : Fin 128) :
    outOf (headRows (vn 0) (vn 1)) l acc pn (ix3 0 r d) = Ideal.div (acc (ix2 r ⟨128 * (hd r).val + d.val, by omega⟩) + pn (ix2 r 0) * vn (hd r) (ix3 0 0 d))
      (∑ x : Fin 128, l (ix2 r x) + pn (ix2 r 0)) := by
  pointwise [outOf, headRows]
  rw [select_ix (fun h => vn h (ix3 0 0 d)), mask_ix]
  congr 2
  by_cases h : r.val < 16
  · rw [if_pos h]; show acc _ = acc _; congr 2; exact Fin.ext (by simp [hd_lo r h])
  · rw [if_neg h]; show acc _ = acc _; congr 2; exact Fin.ext (by simp [hd_hi r h])

/-- Element `s` of chunk `k`. -/
def tok (k : Fin 8) (s : Fin 512) : Fin 4096 := ⟨512 * k.val + s.val, by omega⟩
/-- Lane `l` of group `j`. -/
def lane (j : Fin 4) (l : Fin 128) : Fin 512 := ⟨j.val * 128 + l.val, by omega⟩

/-- A bound on the running lane maxima after a chunk: it bounds the old ones and the four scores of the lane. -/
theorem maxStep_le (a : FVec Ideal S32x128 .f32) (s : FVec Ideal S32x512 .f32) (r : Fin 32) (l : Fin 128) (z : EReal) :
    maxStep a s (ix2 r l) ≤ z ↔ a (ix2 r l) ≤ z ∧ ∀ j : Fin 4, s (ix2 r (lane j l)) ≤ z := by
  pointwise [maxStep]
  simp only [Fin.forall_fin_succ, lane]
  simp [max_le_iff, and_assoc]

/-- The running lane sums after a chunk: the old one plus the four weights of the lane. -/
theorem sumStep_ix (a : FVec Ideal S32x128 .f32) (s : FVec Ideal S32x512 .f32) (r : Fin 32) (l : Fin 128) :
    sumStep a s (ix2 r l) = a (ix2 r l) + ∑ j : Fin 4, s (ix2 r (lane j l)) := by
  pointwise [sumStep]
  simp only [Fin.sum_univ_four, lane]
  simp [add_assoc]

/-- The accumulator after a chunk, in the half of the head: the old one plus the weights times the scaled values of the chunk. -/
theorem accStep_ix (a : FVec Ideal S32x256 .f32) (p : FVec Ideal S32x512 .f32) (s : Fin 2 → FVec Ideal S1x128 .bf16) (x : Fin 2 → Vec Ideal S1x1x512x128 .fp8e4m3) (r : Fin 32) (h : Fin 2) (d : Fin 128) :
    accStep a p (both (s 0) (s 1) (x 0) (x 1)) (ix2 r ⟨128 * h.val + d.val, by omega⟩) = a (ix2 r ⟨128 * h.val + d.val, by omega⟩)
      + ∑ t : Fin 512, p (ix2 r t) * (x h (ix4 0 0 t d) * s h (ix2 0 d)) := by
  fin_cases h
  · pointwise [accStep, both, wide]
  · pointwise [accStep, both, wide]

/-- Softmax attention over 4096 stored tokens and one new one, for one output element: the stored scores, the new score, the
    stored values and the new value. -/
def top (S : Fin 4096 → EReal) (sn : EReal) : EReal := max (Finset.univ.fold max (Ideal.ofBits .f32 0xFF800000#32) S) sn
/-- Softmax attention over 4096 cached tokens and one new token, from scores and values. -/
def attn (S : Fin 4096 → EReal) (sn : EReal) (w : Fin 4096 → EReal) (wn : EReal) : EReal :=
  Ideal.div ((∑ t, Ideal.exp (S t - top S sn) * w t) + Ideal.exp (sn - top S sn) * wn)
    ((∑ t, Ideal.exp (S t - top S sn)) + Ideal.exp (sn - top S sn))

/-- Something holds of every token when it holds of every lane, chunk and quarter of a chunk. -/
theorem forall_tok (p : Fin 4096 → Prop) : (∀ t, p t) ↔ ∀ (l : Fin 128) (k : Fin 8) (j : Fin 4), p (tok k (lane j l)) := by
  constructor
  · intro h l k j; exact h _
  · intro h t
    have := h ⟨t.val % 128, by omega⟩ ⟨t.val / 512, by omega⟩ ⟨t.val % 512 / 128, by omega⟩
    have e : tok ⟨t.val / 512, by omega⟩ (lane ⟨t.val % 512 / 128, by omega⟩ ⟨t.val % 128, by omega⟩) = t := Fin.ext (by simp only [tok, lane]; omega)
    rwa [e] at this

/-- A sum over chunks of tokens is the sum over all tokens. -/
theorem sum_tok (f : Fin 4096 → EReal) : ∑ k : Fin 8, ∑ s : Fin 512, f (tok k s) = ∑ t, f t :=
  (Fin.sum_mul_add_congr fun s k _ => congrArg f (Fin.ext (by simp only [tok]; omega)))

/-- A sum over the lanes and quarters of a chunk is the sum over the chunk. -/
theorem sum_lane (f : Fin 512 → EReal) : ∑ j : Fin 4, ∑ l : Fin 128, f (lane j l) = ∑ t, f t :=
  (Fin.sum_mul_add_congr fun s k _ => rfl)

/-- The largest score, found lane by lane, is the largest of all. -/
theorem maxAll_ix (sn : FVec Ideal S32x1 .f32) (S : Fin 8 → FVec Ideal S32x512 .f32) (r : Fin 32) (f : Fin 4096 → EReal)
    (hf : ∀ k s, S k (ix2 r s) = f (tok k s)) : maxAll sn S (ix2 r 0) = top f (sn (ix2 r 0)) := by
  pointwise [maxAll]
  unfold top
  congr 1
  refine eq_of_forall_ge_iff fun z => ?_
  rw [Finset.fold_max_le, Finset.fold_max_le]
  refine and_congr_right fun h0 => ?_
  simp only [Finset.mem_univ, true_imp_iff]
  rw [forall_tok (fun t => f t ≤ z)]
  refine forall_congr' fun l => ?_
  simp only [maxStep_le, hf]
  have hb : (broadcast S32x128 (Ideal.ofBits FTy.f32 4286578688#32) : FVec Ideal S32x128 .f32) (ix2 r l) ≤ z := h0
  constructor
  · rintro ⟨⟨⟨⟨⟨⟨⟨⟨-, h0⟩, h1⟩, h2⟩, h3⟩, h4⟩, h5⟩, h6⟩, h7⟩ k
    fin_cases k <;> assumption
  · intro h
    exact ⟨⟨⟨⟨⟨⟨⟨⟨hb, h 0⟩, h 1⟩, h 2⟩, h 3⟩, h 4⟩, h 5⟩, h 6⟩, h 7⟩

/-- The sum of the exponentials, lane by lane and then over the lanes, is the sum over all tokens. -/
theorem sumLanes_ix (P : Fin 8 → FVec Ideal S32x512 .f32) (r : Fin 32) (f : Fin 4096 → EReal)
    (hf : ∀ k s, P k (ix2 r s) = f (tok k s)) : ∑ l : Fin 128, sumLanes P (ix2 r l) = ∑ t, f t := by
  have h : ∀ l, sumLanes P (ix2 r l) = ∑ k : Fin 8, ∑ j : Fin 4, f (tok k (lane j l)) := by
    intro l
    unfold sumLanes
    simp only [sumStep_ix, hf, Fin.sum_univ_eight]
    rw [show (broadcast S32x128 (Scalar.ofBits .f32 0x00000000#32) : FVec Ideal S32x128 .f32) (ix2 r l) = 0 by pointwise, zero_add]
  simp only [h]
  rw [Finset.sum_comm, ← sum_tok]
  refine Finset.sum_congr rfl fun k _ => ?_
  rw [Finset.sum_comm, ← sum_lane]

/-- The weighted values chunk by chunk are the weighted values over all tokens. -/
theorem accAll_ix (P : Fin 8 → FVec Ideal S32x512 .f32) (s : Fin 2 → FVec Ideal S1x128 .bf16) (x : Fin 8 → Fin 2 → Vec Ideal S1x1x512x128 .fp8e4m3) (r : Fin 32) (h : Fin 2) (d : Fin 128)
    (f w : Fin 4096 → EReal) (hf : ∀ k s, P k (ix2 r s) = f (tok k s)) (hw : ∀ k t, x k h (ix4 0 0 t d) * s h (ix2 0 d) = w (tok k t)) :
    accAll P (fun k => both (s 0) (s 1) (x k 0) (x k 1)) (ix2 r ⟨128 * h.val + d.val, by omega⟩) = ∑ t, f t * w t := by
  unfold accAll
  rw [← sum_tok]
  simp only [accStep_ix, hf, hw, Fin.sum_univ_eight]
  rw [show (broadcast S32x256 (Scalar.ofBits .f32 0x00000000#32) : FVec Ideal S32x256 .f32) (ix2 r ⟨128 * h.val + d.val, by omega⟩) = 0 by pointwise, zero_add]

/-- A scale from its bit pattern. -/
def scale (b : BitVec 32) : EReal := Ideal.ofBits .f32 b

/-- One element of a sequence's output slab is softmax attention over the blocks. -/
theorem seqOut_ix (x0 x1 : Vec Ideal S2 .i32) (x2 : Vec Ideal S2x32x128 .bf16) (x5 x6 : Vec Ideal S2x2x4096x128 .fp8e4m3) (rK rV : Vec Ideal S2x32x128 .f32) (b : Fin 2) (n : Fin 32) (r : Fin 32) (d : Fin 128) :
    seqOut x0 x1 x2 x5 x6 rK rV b n (ix3 0 r d) = attn
      (fun t => (∑ e : Fin 128, x2 (ix3 b r e) * (x5 (ix4 b (hd r) t e) * scale (x0 (ix1 (hd r))))) * sm)
      ((∑ e : Fin 128, x2 (ix3 b r e) * rK (ix3 (hd r) n e)) * sm)
      (fun t => x6 (ix4 b (hd r) t d) * scale (x1 (ix1 (hd r))))
      (rV (ix3 (hd r) n d)) := by
  have hS : ∀ k s, scoreOf x0 x2 x5 b k (ix2 r s) = (fun t => (∑ e : Fin 128, x2 (ix3 b r e) * (x5 (ix4 b (hd r) t e) * scale (x0 (ix1 (hd r))))) * sm) (tok k s) := by
    intro k s
    unfold scoreOf
    rw [score_ix (slabOf x2 b) (fun h => laneScale (x0 (ix1 h))) (chunkOf x5 b k)]
    pointwise [slabOf, chunkOf, laneScale]
    rfl
  have hn : scoreNewOf x2 rK b n (ix2 r 0) = (∑ e : Fin 128, x2 (ix3 b r e) * rK (ix3 (hd r) n e)) * sm := by
    unfold scoreNewOf
    rw [scoreNew_ix (slabOf x2 b) (fun h => rowOf rK h n)]
    rfl
  generalize (fun t => (∑ e : Fin 128, x2 (ix3 b r e) * (x5 (ix4 b (hd r) t e) * scale (x0 (ix1 (hd r))))) * sm) = S at hS ⊢
  generalize (∑ e : Fin 128, x2 (ix3 b r e) * rK (ix3 (hd r) n e)) * sm = sn at hn ⊢
  have hm : maxOf x0 x2 x5 rK b n (ix2 r 0) = top S sn := by
    unfold maxOf
    rw [maxAll_ix _ _ r S hS, hn]
  have hP : ∀ k s, expOf x0 x2 x5 rK b n k (ix2 r s) = (fun t => Ideal.exp (S t - top S sn)) (tok k s) := by
    intro k s
    unfold expOf
    pointwise [expo, stored]
    rw [hS, hm]
  have hpn : expoNew (scoreNewOf x2 rK b n) (maxOf x0 x2 x5 rK b n) (ix2 r 0) = Ideal.exp (sn - top S sn) := by
    pointwise [expoNew]
    rw [hn, hm]
  unfold seqOut
  rw [outOf_ix (fun h => rowOf rV h n), sumLanes_ix _ r (fun t => Ideal.exp (S t - top S sn)) hP, hpn,
    accAll_ix _ (fun h => laneScale (x1 (ix1 h))) (chunkOf x6 b) r (hd r) d (fun t => Ideal.exp (S t - top S sn)) (fun t => x6 (ix4 b (hd r) t d) * scale (x1 (ix1 (hd r)))) hP ?_]
  · rfl
  · intro k t
    pointwise [chunkOf, laneScale]
    rfl

/-- Clipping to the format's range. -/
def clip8 (v : EReal) : EReal := min (Ideal.ofBits .f32 0x43E00000#32) (max (Ideal.ofBits .f32 0xC3E00000#32) v)
/-- The exponent field of a bit pattern, as the kernel takes it. -/
def expField (b : BitVec 32) : BitVec 32 := IntOp.andi (IntOp.shrsi ArithUnit.vector b 23#32) 255#32
/-- The kernel's inverse power of two, made from the scale's bit pattern. -/
def invBits (b : BitVec 32) : EReal :=
  Scalar.select (IntOp.cmpi CmpIPredicate.eq (expField b) 0#32) (Ideal.ofBits .f32 0x40000000#32)
    (Ideal.ofBits .f32 (IntOp.shli ArithUnit.vector (IntOp.subi (254#32) (expField b)) 23#32))

/-- A code: the new row times the inverse, clipped. -/
theorem codeSlab_ix (b : BitVec 32) (x : Vec Ideal S1x32x128 .bf16) (n : Fin 32) (d : Fin 128) :
    codeSlab (F := Ideal) b x (ix3 0 n d) = clip8 (x (ix3 0 n d) * invBits b) := by
  unfold codeSlab
  unfold k0_pay3 k0_pay2 k0_pay21
  pointwise
  rfl

/-- A row read back from its codes: code times scale. -/
theorem rowSlab_ix (b : BitVec 32) (x : Vec Ideal S1x32x128 .bf16) (n : Fin 32) (d : Fin 128) : rowSlab (F := Ideal) b x (ix3 0 n d) = codeSlab (F := Ideal) b x (ix3 0 n d) * scale b := by
  unfold codeSlab rowSlab k0_pay3 k0_pay4
  pointwise [laneScale]
  rfl

/-! ## The results as functions of the arguments -/

/-- The codes of head `h`, sequence `n`, lane `d`. -/
def specCode (inv : BitVec 32 → EReal) (new : Vec Ideal S32x1x2x128 .bf16) (bits : Vec Ideal S2 .i32) (h : Fin 2) (n : Fin 32) (d : Fin 128) : EReal :=
  clip8 (new (ix4 n 0 h d) * inv (bits (ix1 h)))

/-- The attention output of sequence `n`, row `r`, lane `d`. -/
def specY (inv : BitVec 32 → EReal) (x : Vec Ideal S32x1x4096 .bf16) (kn vn : Vec Ideal S32x1x2x128 .bf16) (kc : Vec Ideal S32x4096x2x128 .fp8e4m3) (ks : Vec Ideal S2 .i32)
    (vc : Vec Ideal S32x4096x2x128 .fp8e4m3) (vs : Vec Ideal S2 .i32) (n r : Fin 32) (d : Fin 128) : EReal :=
  attn
    (fun t => (∑ e : Fin 128, x (ix3 n 0 ⟨128 * r.val + e.val, by omega⟩) * (kc (ix4 n t (hd r) e) * scale (ks (ix1 (hd r))))) * sm)
    ((∑ e : Fin 128, x (ix3 n 0 ⟨128 * r.val + e.val, by omega⟩) * (specCode inv kn ks (hd r) n e * scale (ks (ix1 (hd r))))) * sm)
    (fun t => vc (ix4 n t (hd r) d) * scale (vs (ix1 (hd r))))
    (specCode inv vn vs (hd r) n d * scale (vs (ix1 (hd r))))

variable (m : (ℓ : Loc nD τ sig) → Buf (Elt Ideal) ℓ)

/-- An entry of two slabs put together. -/
theorem slabs_ix {F : FTy → Type} {e : EltTy} (y : Fin 2 → Vec F S1x32x128 e) (h : Fin 2) (n : Fin 32) (d : Fin 128) : slabs y (ix3 h n d) = y h (ix3 0 n d) := rfl

/-- The kernel's codes and rows at an index. -/
theorem codesK_ix (c : Dev nD) (h : Fin 2) (n : Fin 32) (d : Fin 128) :
    codesK m c (ix3 h n d) = specCode invBits (m ((c : Thread nD τ).loc main_arg1)) (m ((c : Thread nD τ).loc main_arg4)) h n d := by
  rw [codesK_eq]
  rw [slabs_ix, codeSlab_ix, iblk0]
  show clip8 ((show EReal from (iblk m c 3 t0 : Vec Ideal S2x32x128 .bf16) (ix3 h n d)) * _) = _
  rw [iblk3]
  rfl

/-- A value code of the kernel at an index. -/
theorem codesV_ix (c : Dev nD) (h : Fin 2) (n : Fin 32) (d : Fin 128) :
    codesV m c (ix3 h n d) = specCode invBits (m ((c : Thread nD τ).loc main_arg2)) (m ((c : Thread nD τ).loc main_arg6)) h n d := by
  rw [codesV_eq]
  rw [slabs_ix, codeSlab_ix, iblk1]
  show clip8 ((show EReal from (iblk m c 4 t0 : Vec Ideal S2x32x128 .bf16) (ix3 h n d)) * _) = _
  rw [iblk4]
  rfl

/-- A kept key row is the code times the scale. -/
theorem rowsK_ix (c : Dev nD) (h : Fin 2) (n : Fin 32) (d : Fin 128) :
    rowsK m c (ix3 h n d) = codesK m c (ix3 h n d) * scale (m ((c : Thread nD τ).loc main_arg4) (ix1 h)) := by
  rw [codesK_eq, rowsK_eq]
  rw [slabs_ix, slabs_ix, rowSlab_ix, iblk0]

/-- A kept value row is the code times the scale. -/
theorem rowsV_ix (c : Dev nD) (h : Fin 2) (n : Fin 32) (d : Fin 128) :
    rowsV m c (ix3 h n d) = codesV m c (ix3 h n d) * scale (m ((c : Thread nD τ).loc main_arg6) (ix1 h)) := by
  rw [codesV_eq, rowsV_eq]
  rw [slabs_ix, slabs_ix, rowSlab_ix, iblk1]

/-- The kernel's y at an index. -/
theorem yAt_ix (c : Dev nD) (t : Fin cfg0.N) (b : Fin 2) (r : Fin 32) (d : Fin 128) :
    yAt m c t (ix3 b r d) = specY invBits (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (seqNo (grid0.coords t) b) r d := by
  rw [yAt_eq]
  show seqOut _ _ _ _ _ _ _ b _ (ix3 0 r d) = _
  rw [seqOut_ix]
  simp only [rowsK_ix, rowsV_ix, codesK_ix, codesV_ix, iblk0, iblk1, iblk2, iblk5, iblk6]
  rfl

end Cert.KernelIdeal.Hand
end
-- ==== Proof.RefValue.lean ====
/- The reference's body at an index, over the extended reals. -/
module
public import proofs.«01_k».proof.Proof.SeqValue
public import proofs.«01_k».proof.Proof.Gen.ReferenceIdeal.Frame
@[expose] public section
set_option maxRecDepth 16384
noncomputable section
namespace Cert.ReferenceIdeal.Hand
open Cert.ReferenceIdeal Cert.ReferenceIdeal.Gen
open Idealize.ShloMosaic Idealize.ShloMosaic.TcCoe
open Cert.KernelIdeal.Hand (clip8 attn sm top hd)

/-- The pair (sequence `n`, head `h`) in the reference's leading axis. -/
def pr (n : Fin 32) (h : Fin 2) : Fin 64 := ⟨n.val * 2 + h.val, by omega⟩

/-- A key code at an index. -/
theorem pay2_ix (v0 : Vec Ideal S64x1x128 .bf16) (v2 : Vec Ideal S64x1x1 .f32) (p : Fin 64) (d : Fin 128) :
    k0_pay2 v0 v2 (ix3 p 0 d) = clip8 (v0 (ix3 p 0 d) * v2 (ix3 p 0 0)) := by
  unfold k0_pay2
  pointwise
  rfl

/-- A value code at an index. -/
theorem pay3_ix (v0 : Vec Ideal S64x1x128 .bf16) (v2 : Vec Ideal S64x1x1 .f32) (p : Fin 64) (d : Fin 128) :
    k0_pay3 v0 v2 (ix3 p 0 d) = clip8 (v0 (ix3 p 0 d) * v2 (ix3 p 0 0)) := by
  unfold k0_pay3
  pointwise
  rfl

/-- A key code in the layout it is stored in. -/
theorem pay4_ix (v0 : Vec Ideal S64x1x128 .bf16) (v2 : Vec Ideal S64x1x1 .f32) (h : Fin 2) (n : Fin 32) (d : Fin 128) :
    k0_pay4 v0 v2 (ix3 h n d) = clip8 (v0 (ix3 (pr n h) 0 d) * v2 (ix3 (pr n h) 0 0)) := by
  rw [← pay2_ix]
  unfold k0_pay4
  pointwise
  unfold pr
  blk_ext

/-- A value code in the layout it is stored in. -/
theorem pay5_ix (v0 : Vec Ideal S64x1x128 .bf16) (v2 : Vec Ideal S64x1x1 .f32) (h : Fin 2) (n : Fin 32) (d : Fin 128) :
    k0_pay5 v0 v2 (ix3 h n d) = clip8 (v0 (ix3 (pr n h) 0 d) * v2 (ix3 (pr n h) 0 0)) := by
  rw [← pay3_ix]
  unfold k0_pay5
  pointwise
  unfold pr
  blk_ext

/-- The scores against the cached keys. -/
theorem pay7_ix (kc : FVec Ideal S64x4096x128 .fp8e4m3) (ks : Vec Ideal S64x1x1 .f32) (q : Vec Ideal S64x16x128 .bf16) (p : Fin 64) (g : Fin 16) (t : Fin 4096) :
    k0_pay7 kc ks q (ix3 p g t) = (∑ e : Fin 128, q (ix3 p g e) * (kc (ix3 p t e) * ks (ix3 p 0 0))) * sm := by
  unfold k0_pay7
  pointwise
  simp [sm]

/-- The score against the new key. -/
theorem pay8_ix (kn : FVec Ideal S64x1x128 .fp8e4m3) (ks : Vec Ideal S64x1x1 .f32) (q : Vec Ideal S64x16x128 .bf16) (p : Fin 64) (g : Fin 16) :
    k0_pay8 kn ks q (ix3 p g 0) = (∑ e : Fin 128, q (ix3 p g e) * (kn (ix3 p 0 e) * ks (ix3 p 0 0))) * sm := by
  unfold k0_pay8
  pointwise
  simp [sm]

/-- The greatest of a row's entries. -/
def rowTop (f : Fin 4096 → EReal) : EReal := Finset.univ.fold max (Ideal.ofBits .f32 0xFF800000#32) f

/-- A row's greatest entry. -/
theorem rowMax_ix (S : FVec Ideal S64x16x4096 .f32) (p : Fin 64) (g : Fin 16) :
    multiReduction .maximumf [2] S64x16 S 0xFF800000#32 reduces_S64x16x4096_S64x16 (.inl rfl) rfl (ix2 p g) = rowTop fun t => S (ix3 p g t) := by
  pointwise
  refine eq_of_forall_ge_iff fun z => ?_
  rw [rowTop, Finset.fold_max_le]

/-- The maximum of a column of row maxima and the score of the new token, at an index. -/
theorem maxCol_ix (M : FVec Ideal S64x16 .f32) (s : FVec Ideal S64x16x1 .f32) (p : Fin 64) (g : Fin 16) :
    maximumf (shapeCast S64x16x1 M shapeCasts_S64x16_S64x16x1) s (ix3 p g 0) = max (show EReal from M (ix2 p g)) (show EReal from s (ix3 p g 0)) := by
  pointwise

/-- The top score is the maximum of the row maximum and the score of the new token. -/
theorem top_eq (f : Fin 4096 → EReal) (x : EReal) : top f x = max (rowTop f) x := rfl

/-- The greatest score of a row. -/
theorem pay9_ix (kn : FVec Ideal S64x1x128 .fp8e4m3) (kc : FVec Ideal S64x4096x128 .fp8e4m3) (ks : Vec Ideal S64x1x1 .f32) (q : Vec Ideal S64x16x128 .bf16) (ks' : Vec Ideal S64x1x1 .f32) (q' : Vec Ideal S64x16x128 .bf16) (p : Fin 64) (g : Fin 16) :
    k0_pay9 kn kc ks q ks' q' (ix3 p g 0) = top (fun t => k0_pay7 kc ks q (ix3 p g t)) (k0_pay8 kn ks' q' (ix3 p g 0)) := by
  unfold k0_pay9
  generalize k0_pay7 kc ks q = S
  generalize k0_pay8 kn ks' q' = s
  rw [top_eq, ← rowMax_ix S p g]
  exact maxCol_ix _ s p g

/-- The weights of a row: the exponentials of the scores less the greatest. -/
theorem pay10_ix (kn : FVec Ideal S64x1x128 .fp8e4m3) (kc : FVec Ideal S64x4096x128 .fp8e4m3) (ks : Vec Ideal S64x1x1 .f32) (q : Vec Ideal S64x16x128 .bf16) (ks' : Vec Ideal S64x1x1 .f32) (q' : Vec Ideal S64x16x128 .bf16) (p : Fin 64) (g : Fin 16) (t : Fin 4096) :
    k0_pay10 kn kc ks q ks' q' (ix3 p g t) = Ideal.exp (k0_pay7 kc ks q (ix3 p g t) - k0_pay9 kn kc ks q ks' q' (ix3 p g 0)) := by
  unfold k0_pay10
  generalize k0_pay7 kc ks q = S
  generalize k0_pay9 kn kc ks q ks' q' = M
  pointwise

/-- The weight of the new token at an index: exp of its score less the top score. -/
theorem pay11_ix (kn : FVec Ideal S64x1x128 .fp8e4m3) (kc : FVec Ideal S64x4096x128 .fp8e4m3) (ks : Vec Ideal S64x1x1 .f32) (q : Vec Ideal S64x16x128 .bf16) (ks' : Vec Ideal S64x1x1 .f32) (q' : Vec Ideal S64x16x128 .bf16) (p : Fin 64) (g : Fin 16) :
    k0_pay11 kn kc ks q ks' q' (ix3 p g 0) = Ideal.exp (k0_pay8 kn ks' q' (ix3 p g 0) - k0_pay9 kn kc ks q ks' q' (ix3 p g 0)) := by
  unfold k0_pay11
  generalize k0_pay8 kn ks' q' = s
  generalize k0_pay9 kn kc ks q ks' q' = M
  pointwise

/-- The sum of a row's weights. -/
theorem pay12_ix (kn : FVec Ideal S64x1x128 .fp8e4m3) (kc : FVec Ideal S64x4096x128 .fp8e4m3) (ks : Vec Ideal S64x1x1 .f32) (q : Vec Ideal S64x16x128 .bf16) (ks' : Vec Ideal S64x1x1 .f32) (q' : Vec Ideal S64x16x128 .bf16) (p : Fin 64) (g : Fin 16) :
    k0_pay12 kn kc ks q ks' q' (ix3 p g 0) = (∑ t, k0_pay10 kn kc ks q ks' q' (ix3 p g t)) + k0_pay11 kn kc ks q ks' q' (ix3 p g 0) := by
  unfold k0_pay12
  generalize k0_pay10 kn kc ks q ks' q' = S
  generalize k0_pay11 kn kc ks q ks' q' = s
  pointwise

/-- The group of rows a row of a sequence's 32 belongs to, and its place in it. -/
def grp (r : Fin 32) : Fin 16 := ⟨r.val % 16, by omega⟩

/-- The attention output from the weights. -/
theorem pay1_ix (vn : FVec Ideal S64x1x128 .fp8e4m3) (P : FVec Ideal S64x16x4096 .f32) (pn l : FVec Ideal S64x16x1 .f32) (vc : FVec Ideal S64x4096x128 .fp8e4m3) (vs : FVec Ideal S64x1x1 .f32) (vs' : Vec Ideal S64x1x1 .f32)
    (n r : Fin 32) (d : Fin 128) :
    k0_pay1 vn P pn l vc vs vs' (ix3 n r d) = Ideal.div ((∑ t, P (ix3 (pr n (hd r)) (grp r) t) * (vc (ix3 (pr n (hd r)) t d) * vs (ix3 (pr n (hd r)) 0 0))) + pn (ix3 (pr n (hd r)) (grp r) 0) * (vn (ix3 (pr n (hd r)) 0 d) * vs' (ix3 (pr n (hd r)) 0 0)))
      (l (ix3 (pr n (hd r)) (grp r) 0)) := by
  unfold k0_pay1
  pointwise
  simp [pr, hd, grp]

end Cert.ReferenceIdeal.Hand
end
-- ==== Proof.RefRun.lean ====
/- The reference's blocks at an index, and its result arrays after the run. -/
module
public import proofs.«01_k».proof.Proof.RefValue
public import Idealize.ShloMosaic.Lib.Pipeline.ValueKit
public import Idealize.ShloMosaic.Lib.StableHlo.ReadAt
@[expose] public section
set_option maxRecDepth 16384
noncomputable section
namespace Cert.ReferenceIdeal.Hand
open Cert.ReferenceIdeal Cert.ReferenceIdeal.Gen
open Idealize.ShloMosaic Idealize.ShloMosaic.TcCoe Idealize.SL.Sem
open Cert.KernelIdeal.Hand (clip8 attn sm top hd scale specCode specY)

variable (m : (ℓ : Loc nD τ sig) → Buf (Elt Ideal) ℓ) (ρ : Dev nD → PrngReg)

/-- The reference's power of two number `x`: 2 to the `x - 126`. -/
def step (x : Fin 254) : EReal :=
  Ideal.pow (Ideal.ofBits .f32 0x40000000#32) (FloatOps.sitofp (F := Ideal) .f32 (BitVec.ofNat 32 x.val) - Ideal.ofBits .f32 0x42FC0000#32)

/-- The reference's inverse of a scale given by its bits: one over the greatest power of two not above its
    magnitude, and two for a scale of zero. -/
def invR (b : BitVec 32) : EReal :=
  if 0 < (FloatOps.absf (F := Ideal) (φ := .f32) (scale b) : EReal) then
    Ideal.div 1 (Finset.univ.fold max (Ideal.ofBits .f32 0xFF800000#32) fun x : Fin 254 =>
      if step x ≤ (FloatOps.absf (F := Ideal) (φ := .f32) (scale b) : EReal) then step x else Ideal.ofBits .f32 0x00000000#32)
  else Ideal.ofBits .f32 0x40000000#32

/-- The sequence of a sequence and head pair. -/
theorem pr_div (n : Fin 32) (h : Fin 2) (H : (pr n h).val / 2 < 32) : (⟨(pr n h).val / 2, H⟩ : Fin 32) = n :=
  Fin.ext (by show (n.val * 2 + h.val) / 2 = n.val; omega)
/-- The head of a sequence and head pair. -/
theorem pr_mod (n : Fin 32) (h : Fin 2) (H : (pr n h).val % 2 < 2) : (⟨(pr n h).val % 2, H⟩ : Fin 2) = h :=
  Fin.ext (by show (n.val * 2 + h.val) % 2 = h.val; omega)

/-- Every window of the reference is its whole array, by computation. -/
theorem idx_in : ∀ t : Fin grid0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0, 0] ∧ win0_9.index t = ![0, 0, 0] ∧ win0_10.index t = ![0, 0, 0] ∧ win0_11.index t = ![0, 0, 0] := by decide +kernel

/-! The arrays the reference's region reads, at an index, as the arguments. -/

/-- What the host operations leave in the operand for the key scale, an entry at a time. -/
theorem V0 (c : Dev nD) (n : Fin 32) (h : Fin 2) : (V m c main_v49 : Vec Ideal S64x1x1 .f32) (ix3 (pr n h) 0 0) = scale (m ((c : Thread nD τ).loc main_arg4) (ix1 h)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  rw [pr_mod]
  rfl

/-- An entry of the block of the key scale the reference's body reads. -/
theorem iblk0 (c : Dev nD) (t : Fin cfg0.N) (n : Fin 32) (h : Fin 2) : (iblk m c 0 t : Vec Ideal S64x1x1 .f32) (ix3 (pr n h) 0 0) = scale (m ((c : Thread nD τ).loc main_arg4) (ix1 h)) := by
  rw [← V0 m c n h]
  blk_ext [iblk, idx_in t]

/-- What the host operations leave in the operand for the value scale, an entry at a time. -/
theorem V2 (c : Dev nD) (n : Fin 32) (h : Fin 2) : (V m c main_v55 : Vec Ideal S64x1x1 .f32) (ix3 (pr n h) 0 0) = scale (m ((c : Thread nD τ).loc main_arg6) (ix1 h)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  rw [pr_mod]
  rfl

/-- An entry of the block of the value scale the reference's body reads. -/
theorem iblk2 (c : Dev nD) (t : Fin cfg0.N) (n : Fin 32) (h : Fin 2) : (iblk m c 2 t : Vec Ideal S64x1x1 .f32) (ix3 (pr n h) 0 0) = scale (m ((c : Thread nD τ).loc main_arg6) (ix1 h)) := by
  rw [← V2 m c n h]
  blk_ext [iblk, idx_in t]

/-- What the host operations leave in the operand for the inverse key scale, an entry at a time. -/
theorem V1 (c : Dev nD) (n : Fin 32) (h : Fin 2) : (V m c main_v52 : Vec Ideal S64x1x1 .f32) (ix3 (pr n h) 0 0) = invR (m ((c : Thread nD τ).loc main_arg4) (ix1 h)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  rw [pr_mod]
  unfold invR scale step
  rfl

/-- An entry of the block of the inverse key scale the reference's body reads. -/
theorem iblk1 (c : Dev nD) (t : Fin cfg0.N) (n : Fin 32) (h : Fin 2) : (iblk m c 1 t : Vec Ideal S64x1x1 .f32) (ix3 (pr n h) 0 0) = invR (m ((c : Thread nD τ).loc main_arg4) (ix1 h)) := by
  rw [← V1 m c n h]
  blk_ext [iblk, idx_in t]

/-- What the host operations leave in the operand for the inverse value scale, an entry at a time. -/
theorem V3 (c : Dev nD) (n : Fin 32) (h : Fin 2) : (V m c main_v58 : Vec Ideal S64x1x1 .f32) (ix3 (pr n h) 0 0) = invR (m ((c : Thread nD τ).loc main_arg6) (ix1 h)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  rw [pr_mod]
  unfold invR scale step
  rfl

/-- An entry of the block of the inverse value scale the reference's body reads. -/
theorem iblk3 (c : Dev nD) (t : Fin cfg0.N) (n : Fin 32) (h : Fin 2) : (iblk m c 3 t : Vec Ideal S64x1x1 .f32) (ix3 (pr n h) 0 0) = invR (m ((c : Thread nD τ).loc main_arg6) (ix1 h)) := by
  rw [← V3 m c n h]
  blk_ext [iblk, idx_in t]

/-- What the host operations leave in the operand for the queries, an entry at a time. -/
theorem V4 (c : Dev nD) (n r : Fin 32) (d : Fin 128) : (V m c main_v40 : Vec Ideal S64x16x128 .bf16) (ix3 (pr n (hd r)) (grp r) d) = m ((c : Thread nD τ).loc main_arg0) (ix3 n 0 ⟨128 * r.val + d.val, by omega⟩) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  unfold pr hd grp
  blk_ext

/-- An entry of the block of the queries the reference's body reads. -/
theorem iblk4 (c : Dev nD) (t : Fin cfg0.N) (n r : Fin 32) (d : Fin 128) : (iblk m c 4 t : Vec Ideal S64x16x128 .bf16) (ix3 (pr n (hd r)) (grp r) d) = m ((c : Thread nD τ).loc main_arg0) (ix3 n 0 ⟨128 * r.val + d.val, by omega⟩) := by
  rw [← V4 m c n r d]
  blk_ext [iblk, idx_in t]

/-- What the host operations leave in the operand for the new keys, an entry at a time. -/
theorem V5 (c : Dev nD) (n : Fin 32) (h : Fin 2) (d : Fin 128) : (V m c main_v41 : Vec Ideal S64x1x128 .bf16) (ix3 (pr n h) 0 d) = m ((c : Thread nD τ).loc main_arg1) (ix4 n 0 h d) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  rw [pr_div, pr_mod]

/-- An entry of the block of the new keys the reference's body reads. -/
theorem iblk5 (c : Dev nD) (t : Fin cfg0.N) (n : Fin 32) (h : Fin 2) (d : Fin 128) : (iblk m c 5 t : Vec Ideal S64x1x128 .bf16) (ix3 (pr n h) 0 d) = m ((c : Thread nD τ).loc main_arg1) (ix4 n 0 h d) := by
  rw [← V5 m c n h d]
  blk_ext [iblk, idx_in t]

/-- What the host operations leave in the operand for the new values, an entry at a time. -/
theorem V6 (c : Dev nD) (n : Fin 32) (h : Fin 2) (d : Fin 128) : (V m c main_v42 : Vec Ideal S64x1x128 .bf16) (ix3 (pr n h) 0 d) = m ((c : Thread nD τ).loc main_arg2) (ix4 n 0 h d) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  rw [pr_div, pr_mod]

/-- An entry of the block of the new values the reference's body reads. -/
theorem iblk6 (c : Dev nD) (t : Fin cfg0.N) (n : Fin 32) (h : Fin 2) (d : Fin 128) : (iblk m c 6 t : Vec Ideal S64x1x128 .bf16) (ix3 (pr n h) 0 d) = m ((c : Thread nD τ).loc main_arg2) (ix4 n 0 h d) := by
  rw [← V6 m c n h d]
  blk_ext [iblk, idx_in t]

/-- What the host operations leave in the operand for the key cache, an entry at a time. -/
theorem V7 (c : Dev nD) (n : Fin 32) (h : Fin 2) (s : Fin 4096) (d : Fin 128) : (V m c main_v44 : Vec Ideal S64x4096x128 .fp8e4m3) (ix3 (pr n h) s d) = m ((c : Thread nD τ).loc main_arg3) (ix4 n s h d) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  rw [pr_div, pr_mod]

/-- An entry of the block of the key cache the reference's body reads. -/
theorem iblk7 (c : Dev nD) (t : Fin cfg0.N) (n : Fin 32) (h : Fin 2) (s : Fin 4096) (d : Fin 128) : (iblk m c 7 t : Vec Ideal S64x4096x128 .fp8e4m3) (ix3 (pr n h) s d) = m ((c : Thread nD τ).loc main_arg3) (ix4 n s h d) := by
  rw [← V7 m c n h s d]
  blk_ext [iblk, idx_in t]

/-- What the host operations leave in the operand for the value cache, an entry at a time. -/
theorem V8 (c : Dev nD) (n : Fin 32) (h : Fin 2) (s : Fin 4096) (d : Fin 128) : (V m c main_v46 : Vec Ideal S64x4096x128 .fp8e4m3) (ix3 (pr n h) s d) = m ((c : Thread nD τ).loc main_arg5) (ix4 n s h d) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  rw [pr_div, pr_mod]

/-- An entry of the block of the value cache the reference's body reads. -/
theorem iblk8 (c : Dev nD) (t : Fin cfg0.N) (n : Fin 32) (h : Fin 2) (s : Fin 4096) (d : Fin 128) : (iblk m c 8 t : Vec Ideal S64x4096x128 .fp8e4m3) (ix3 (pr n h) s d) = m ((c : Thread nD τ).loc main_arg5) (ix4 n s h d) := by
  rw [← V8 m c n h s d]
  blk_ext [iblk, idx_in t]

/-! What the body leaves in the three result buffers, at an index. -/

/-- An entry of the key codes block: the scaled new key, clipped. -/
theorem out10_ix (x0 x1 x2 x3 : Vec Ideal S64x1x1 .f32) (x4 : Vec Ideal S64x16x128 .bf16) (x5 x6 : Vec Ideal S64x1x128 .bf16) (x7 x8 : Vec Ideal S64x4096x128 .fp8e4m3) (h : Fin 2) (n : Fin 32) (d : Fin 128) :
    out0_10 x0 x1 x2 x3 x4 x5 x6 x7 x8 (ix3 h n d) = clip8 (x5 (ix3 (pr n h) 0 d) * x1 (ix3 (pr n h) 0 0)) := by
  unfold out0_10
  rw [View.canon_cons_unit_lit _ _ _ (by decide), View.ld_unit_lit _ _ (by decide), View.ld_unit_lit _ _ (by decide), pay4_ix]

/-- An entry of the value codes block: the scaled new value, clipped. -/
theorem out11_ix (x0 x1 x2 x3 : Vec Ideal S64x1x1 .f32) (x4 : Vec Ideal S64x16x128 .bf16) (x5 x6 : Vec Ideal S64x1x128 .bf16) (x7 x8 : Vec Ideal S64x4096x128 .fp8e4m3) (h : Fin 2) (n : Fin 32) (d : Fin 128) :
    out0_11 x0 x1 x2 x3 x4 x5 x6 x7 x8 (ix3 h n d) = clip8 (x6 (ix3 (pr n h) 0 d) * x3 (ix3 (pr n h) 0 0)) := by
  unfold out0_11
  rw [View.canon_cons_unit_lit _ _ _ (by decide), View.ld_unit_lit _ _ (by decide), View.ld_unit_lit _ _ (by decide), pay5_ix]

/-- An entry of the output block: attention over the dequantised cache and the new token. -/
theorem out9_ix (x0 x1 x2 x3 : Vec Ideal S64x1x1 .f32) (x4 : Vec Ideal S64x16x128 .bf16) (x5 x6 : Vec Ideal S64x1x128 .bf16) (x7 x8 : Vec Ideal S64x4096x128 .fp8e4m3) (n r : Fin 32) (d : Fin 128) :
    out0_9 x0 x1 x2 x3 x4 x5 x6 x7 x8 (ix3 n r d) =
      attn (fun t => (∑ e, x4 (ix3 (pr n (hd r)) (grp r) e) * (x7 (ix3 (pr n (hd r)) t e) * x0 (ix3 (pr n (hd r)) 0 0))) * sm)
        ((∑ e, x4 (ix3 (pr n (hd r)) (grp r) e) * (clip8 (x5 (ix3 (pr n (hd r)) 0 e) * x1 (ix3 (pr n (hd r)) 0 0)) * x0 (ix3 (pr n (hd r)) 0 0))) * sm)
        (fun t => x8 (ix3 (pr n (hd r)) t d) * x2 (ix3 (pr n (hd r)) 0 0))
        (clip8 (x6 (ix3 (pr n (hd r)) 0 d) * x3 (ix3 (pr n (hd r)) 0 0)) * x2 (ix3 (pr n (hd r)) 0 0)) := by
  unfold out0_9 k0_pay16 k0_pay15
  rw [View.canon_cons_unit_lit _ _ _ (by decide)]
  rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide), View.ld_unit_lit _ x8 (by decide)]
  have e6 : k0_pay6 x7 = x7 := shapeCast_self _ _
  have e13 : k0_pay13 x8 = x8 := shapeCast_self _ _
  have e14 : k0_pay14 x2 = x2 := shapeCast_self _ _
  rw [e6, e13, e14, pay1_ix, pay12_ix]
  simp only [pay10_ix, pay11_ix, pay9_ix, pay7_ix, pay8_ix, pay3_ix, pay2_ix]
  rfl

/-- The reference's three result arrays: the attention outputs and the codes of the new key and value rows, over
    the reference's own inverse of the scales. -/
def yR (c : Dev nD) : S32x32x128.Idx → EReal := fun i =>
  specY invR (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (i 0) (i 1) (i 2)
/-- The key codes of the reference, from the program's arguments. -/
def codesKR (c : Dev nD) : S2x32x128.Idx → EReal := fun i =>
  specCode invR (m ((c : Thread nD τ).loc main_arg1)) (m ((c : Thread nD τ).loc main_arg4)) (i 0) (i 1) (i 2)
/-- The value codes of the reference, from the program's arguments. -/
def codesVR (c : Dev nD) : S2x32x128.Idx → EReal := fun i =>
  specCode invR (m ((c : Thread nD τ).loc main_arg2)) (m ((c : Thread nD τ).loc main_arg6)) (i 0) (i 1) (i 2)

/-- After the run the array of window 9 holds the reference's output. -/
theorem arr9 (c : Dev nD) : (dats m 0 c).arrAt 9 cfg0.N = yR m c := by
  refine (dats m 0 c).arrAt_eq_of_covers 9 _ (by decide +kernel) fun t hf y => ?_
  blk_simp
  rw [after0_9]
  change S32x32x128.Idx at y
  idx_vars y
  have key : ∀ (y' : S32x32x128.Idx), y' = ix3 y0 y1 y2 → yR m c (ix3 y0 y1 y2) = yR m c y' := by
    rintro _ rfl; rfl
  refine Eq.trans ?_ (key _ ?_)
  · refine (out9_ix _ _ _ _ _ _ _ _ _ y0 y1 y2).trans ?_
    simp only [iblk0, iblk1, iblk2, iblk3, iblk4, iblk5, iblk6, iblk7, iblk8]
    rfl
  · blk_ext [idx_in t]

/-- After the run the array of window 10 holds the reference's key codes. -/
theorem arr10 (c : Dev nD) : (dats m 0 c).arrAt 10 cfg0.N = codesKR m c := by
  refine (dats m 0 c).arrAt_eq_of_covers 10 _ (by decide +kernel) fun t hf y => ?_
  blk_simp
  rw [after0_10]
  change S2x32x128.Idx at y
  idx_vars y
  have key : ∀ (y' : S2x32x128.Idx), y' = ix3 y0 y1 y2 → codesKR m c (ix3 y0 y1 y2) = codesKR m c y' := by
    rintro _ rfl; rfl
  refine Eq.trans ?_ (key _ ?_)
  · refine (out10_ix _ _ _ _ _ _ _ _ _ y0 y1 y2).trans ?_
    simp only [iblk1, iblk5]
    rfl
  · blk_ext [idx_in t]

/-- After the run the array of window 11 holds the reference's value codes. -/
theorem arr11 (c : Dev nD) : (dats m 0 c).arrAt 11 cfg0.N = codesVR m c := by
  refine (dats m 0 c).arrAt_eq_of_covers 11 _ (by decide +kernel) fun t hf y => ?_
  blk_simp
  rw [after0_11]
  change S2x32x128.Idx at y
  idx_vars y
  have key : ∀ (y' : S2x32x128.Idx), y' = ix3 y0 y1 y2 → codesVR m c (ix3 y0 y1 y2) = codesVR m c y' := by
    rintro _ rfl; rfl
  refine Eq.trans ?_ (key _ ?_)
  · refine (out11_ix _ _ _ _ _ _ _ _ _ y0 y1 y2).trans ?_
    simp only [iblk3, iblk6]
    rfl
  · blk_ext [idx_in t]

/-- The reference's run: its three result arrays named, the arguments unchanged. -/
theorem run_value : θ_run defs (onTc (τ := τ) (main (F := Ideal))) ⟨m, fun _ => 0, ρ⟩ fun r => ∀ c : Dev nD,
      r.2.mem ((c : Thread nD τ).loc main_v59_0) = yR m c
      ∧ r.2.mem ((c : Thread nD τ).loc main_v59_1) = codesKR m c
      ∧ r.2.mem ((c : Thread nD τ).loc main_v59_2) = codesVR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 9).trans (arr9 m c), ((h c).1 10).trans (arr10 m c), ((h c).1 11).trans (arr11 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.ReferenceIdeal.Hand
end
-- ==== Proof.Inverse.lean ====
/- The kernel's inverse of a scale, read off its bits, is the reference's. -/
module
public import proofs.«01_k».proof.Proof.RefRun
@[expose] public section
set_option maxRecDepth 16384
noncomputable section
namespace Cert.ReferenceIdeal.Hand
open Idealize.ShloMosaic
open Cert.KernelIdeal.Hand (scale expField invBits)

/-- The exponent field of a 32-bit float's bits, and its significand. -/
def ex (b : BitVec 32) : ℕ := (b.extractLsb' 23 8).toNat
/-- The fraction field of a bit pattern, as a number. -/
def fr (b : BitVec 32) : ℕ := (b.extractLsb' 0 23).toNat

/-- An arithmetic shift by 23 masked to eight bits is the exponent field. -/
theorem field_eq (b : BitVec 32) : b.sshiftRight 23 &&& 255#32 = (b.extractLsb' 23 8).setWidth 32 := by
  apply BitVec.eq_of_getLsbD_eq
  intro i hi
  have h255 : (255#32).getLsbD i = decide (i < 8) := by
    have : ∀ i < 32, (255#32).getLsbD i = decide (i < 8) := by decide
    exact this i hi
  rw [BitVec.getLsbD_and, h255, BitVec.getLsbD_setWidth, BitVec.getLsbD_sshiftRight, BitVec.getLsbD_extractLsb']
  by_cases h8 : i < 8
  · have : 23 + i < 32 := by omega
    simp [h8, this, hi]
  · simp [h8]

/-- The kernel's exponent field is the exponent of the bit pattern. -/
theorem expField_eq (b : BitVec 32) : expField b = BitVec.ofNat 32 (ex b) := by
  have h : expField b = b.sshiftRight 23 &&& 255#32 := rfl
  rw [h, field_eq]
  apply BitVec.eq_of_toNat_eq
  simp [ex]

/-- The exponent field is below 256. -/
theorem ex_lt (b : BitVec 32) : ex b < 256 := (b.extractLsb' 23 8).isLt
/-- The fraction field is below 2 to the 23. -/
theorem fr_lt (b : BitVec 32) : fr b < 2 ^ 23 := (b.extractLsb' 0 23).isLt

/-- A normal number's magnitude. -/
theorem abs_scale (b : BitVec 32) (h1 : 1 ≤ ex b) (h2 : ex b ≤ 253) :
    (FloatOps.absf (F := Ideal) (φ := .f32) (scale b) : EReal) = (((2 ^ 23 + fr b : ℕ) * (2 : ℝ) ^ ((ex b : ℤ) - 127 - 23) : ℝ) : EReal) := by
  show max (scale b) (-(scale b)) = _
  have hs : ∃ s : ℝ, (s = 1 ∨ s = -1) ∧ scale b = ((s * (2 ^ 23 + fr b : ℕ) * (2 : ℝ) ^ ((ex b : ℤ) - 127 - 23) : ℝ) : EReal) := by
    refine ⟨if (b.extractLsb' 31 1 == 1#1) then -1 else 1, by split <;> simp, ?_⟩
    unfold scale Ideal.ofBits Ideal.ieee
    simp only
    have e1 : (b.extractLsb' 23 8).toNat = ex b := rfl
    have e2 : (b.extractLsb' 0 23).toNat = fr b := rfl
    rw [e1, e2, if_neg (by omega), if_neg (by omega)]
    norm_num
  obtain ⟨s, hs, e⟩ := hs
  rw [e, ← EReal.coe_neg]
  have hp : 0 ≤ ((2 ^ 23 + fr b : ℕ) : ℝ) * (2 : ℝ) ^ ((ex b : ℤ) - 127 - 23) := by positivity
  rcases hs with rfl | rfl
  · rw [one_mul]; exact max_eq_left (EReal.coe_le_coe_iff.mpr (by linarith))
  · rw [max_eq_right (EReal.coe_le_coe_iff.mpr (by nlinarith))]
    congr 1; ring

/-- A positive normal number's value. -/
theorem scale_pos (b : BitVec 32) (E F : ℕ) (hs : b.extractLsb' 31 1 = 0#1) (hE : ex b = E) (hF : fr b = F) (h1 : 1 ≤ E) (h2 : E ≤ 254) :
    scale b = (((2 ^ 23 + F : ℕ) * (2 : ℝ) ^ ((E : ℤ) - 127 - 23) : ℝ) : EReal) := by
  unfold scale Ideal.ofBits Ideal.ieee
  simp only
  have e1 : (b.extractLsb' 23 8).toNat = E := hE
  have e2 : (b.extractLsb' 0 23).toNat = F := hF
  rw [e1, e2, if_neg (by omega), if_neg (by omega), hs]
  norm_num

/-- The fields of `(254 - E) << 23`. -/
theorem shift_fields : ∀ E < 254, 1 ≤ E → (((254#32 - BitVec.ofNat 32 E) <<< 23#32).extractLsb' 31 1 = 0#1 ∧ ex ((254#32 - BitVec.ofNat 32 E) <<< 23#32) = 254 - E ∧ fr ((254#32 - BitVec.ofNat 32 E) <<< 23#32) = 0) := by
  decide +kernel

/-- The float whose exponent field is `254 - E`. -/
theorem shifted (E : ℕ) (h1 : 1 ≤ E) (h2 : E ≤ 253) :
    Ideal.ofBits .f32 (IntOp.shli .vector (IntOp.subi 254#32 (BitVec.ofNat 32 E)) 23#32) = (((2 : ℝ) ^ (127 - (E : ℤ)) : ℝ) : EReal) := by
  obtain ⟨k1, k2, k3⟩ := shift_fields E (by omega) h1
  have e : IntOp.shli .vector (IntOp.subi 254#32 (BitVec.ofNat 32 E)) 23#32 = (254#32 - BitVec.ofNat 32 E) <<< 23#32 := if_pos (by decide)
  rw [e]
  change scale ((254#32 - BitVec.ofNat 32 E) <<< 23#32) = _
  rw [scale_pos ((254#32 - BitVec.ofNat 32 E) <<< 23#32) (254 - E) 0 k1 k2 k3 (by omega) (by omega)]
  have h : ((2 ^ 23 + 0 : ℕ) : ℝ) * (2 : ℝ) ^ (((254 - E : ℕ) : ℤ) - 127 - 23) = (2 : ℝ) ^ (127 - (E : ℤ)) := by
    have e : ((254 - E : ℕ) : ℤ) = 254 - (E : ℤ) := by omega
    rw [e, show (((2 ^ 23 + 0 : ℕ) : ℝ)) = (2 : ℝ) ^ (23 : ℤ) by norm_num, ← zpow_add₀ (by norm_num)]
    rw [show (23 : ℤ) + (254 - (E : ℤ) - 127 - 23) = 127 - (E : ℤ) by ring]
  rw [h]

/-- The bits 0x40000000 read as 2. -/
theorem two_eq : Ideal.ofBits .f32 0x40000000#32 = ((2 : ℝ) : EReal) := by
  refine (scale_pos _ 128 0 (by decide) (by decide) (by decide) (by decide) (by decide)).trans ?_
  norm_num

/-- Entry x of the reference's table of powers of two is 2 to the (x - 126). -/
theorem step_eq (x : Fin 254) : step x = (((2 : ℝ) ^ ((x.val : ℤ) - 126) : ℝ) : EReal) := by
  have h126 : Ideal.ofBits .f32 0x42FC0000#32 = ((126 : ℝ) : EReal) := by
    refine (scale_pos _ 133 8126464 (by decide) (by decide) (by decide) (by decide) (by decide)).trans ?_
    norm_num
  have hx : (FloatOps.sitofp (F := Ideal) .f32 (BitVec.ofNat 32 x.val) : EReal) = ((x.val : ℝ) : EReal) := by
    show (((BitVec.ofNat 32 x.val).toInt : ℝ) : EReal) = _
    have : (BitVec.ofNat 32 x.val).toInt = (x.val : ℤ) := by
      revert x; decide +kernel
    rw [this]; simp
  unfold step
  rw [h126, two_eq, hx, ← EReal.coe_sub]
  show ((Real.rpow 2 ((x.val : ℝ) - 126) : ℝ) : EReal) = _
  congr 1
  show (2 : ℝ) ^ ((x.val : ℝ) - 126) = _
  rw [← Real.rpow_intCast]
  congr 1
  push_cast
  ring

/-- The bits 0xFF800000 read as minus infinity. -/
theorem negInf : Ideal.ofBits .f32 0xFF800000#32 = ⊥ := by simp [Ideal.ofBits, Ideal.ieee]

/-- The reference's inverse of a normal scale. -/
theorem invR_normal (b : BitVec 32) (h1 : 1 ≤ ex b) (h2 : ex b ≤ 253) : invR b = (((2 : ℝ) ^ (127 - (ex b : ℤ)) : ℝ) : EReal) := by
  have hA := abs_scale b h1 h2
  unfold invR
  rw [hA]
  generalize hAd : (((2 ^ 23 + fr b : ℕ) : ℝ) * (2 : ℝ) ^ ((ex b : ℤ) - 127 - 23)) = A
  have hf : ((2 ^ 23 + fr b : ℕ) : ℝ) < 2 ^ 24 := by
    have := fr_lt b
    exact_mod_cast (by omega : 2 ^ 23 + fr b < 2 ^ 24)
  have hf' : (2 : ℝ) ^ 23 ≤ ((2 ^ 23 + fr b : ℕ) : ℝ) := by
    exact_mod_cast (by omega : 2 ^ 23 ≤ 2 ^ 23 + fr b)
  have hz : 0 < (2 : ℝ) ^ ((ex b : ℤ) - 127 - 23) := by positivity
  have hlo : (2 : ℝ) ^ ((ex b : ℤ) - 127) ≤ A := by
    rw [← hAd, show (ex b : ℤ) - 127 = 23 + ((ex b : ℤ) - 127 - 23) by ring, zpow_add₀ (by norm_num)]
    rw [show (23 : ℤ) + ((ex b : ℤ) - 127 - 23) - 23 = (ex b : ℤ) - 127 - 23 by ring]
    exact mul_le_mul_of_nonneg_right (by exact_mod_cast hf') hz.le
  have hhi : A < (2 : ℝ) ^ ((ex b : ℤ) - 126) := by
    rw [← hAd, show (ex b : ℤ) - 126 = 24 + ((ex b : ℤ) - 127 - 23) by ring, zpow_add₀ (by norm_num)]
    exact mul_lt_mul_of_pos_right (by exact_mod_cast hf) hz
  have hpos : 0 < A := lt_of_lt_of_le (by positivity) hlo
  rw [if_pos (by exact_mod_cast hpos)]
  have hmax : (Finset.univ.fold max (Ideal.ofBits .f32 0xFF800000#32) fun x : Fin 254 => if step x ≤ (A : EReal) then step x else Ideal.ofBits .f32 0x00000000#32)
      = (((2 : ℝ) ^ ((ex b : ℤ) - 127) : ℝ) : EReal) := by
    apply le_antisymm
    · rw [Finset.fold_max_le, negInf]
      refine ⟨bot_le, fun x _ => ?_⟩
      split
      · rename_i h
        rw [step_eq] at h ⊢
        have h : (2 : ℝ) ^ ((x.val : ℤ) - 126) ≤ A := by exact_mod_cast h
        have := (zpow_lt_zpow_iff_right₀ (by norm_num : (1 : ℝ) < 2)).mp (lt_of_le_of_lt h hhi)
        have : (2 : ℝ) ^ ((x.val : ℤ) - 126) ≤ (2 : ℝ) ^ ((ex b : ℤ) - 127) := zpow_le_zpow_right₀ (by norm_num) (by omega)
        exact_mod_cast this
      · rw [Ideal.ofBits_zero_f32]
        exact_mod_cast (by positivity : (0 : ℝ) ≤ (2 : ℝ) ^ ((ex b : ℤ) - 127))
    · rw [Finset.le_fold_max]
      right
      refine ⟨⟨ex b - 1, by omega⟩, Finset.mem_univ _, ?_⟩
      have e : step ⟨ex b - 1, by omega⟩ = (((2 : ℝ) ^ ((ex b : ℤ) - 127) : ℝ) : EReal) := by
        rw [step_eq]
        congr 2
        show ((ex b - 1 : ℕ) : ℤ) - 126 = _
        omega
      rw [e, if_pos (by exact_mod_cast hlo)]
  rw [hmax]
  unfold Ideal.div
  have hne : (2 : ℝ) ^ ((ex b : ℤ) - 127) ≠ 0 := by positivity
  rw [if_neg (by exact_mod_cast hne), one_mul, ← EReal.coe_inv]
  congr 1
  rw [← zpow_neg]
  congr 1
  ring

/-- What the precondition says of one scale's bits: zero, or an exponent field from 1 to 253. -/
def Ok (b : BitVec 32) : Prop :=
  IntOp.ori (IntOp.cmpi .eq (IntOp.andi b 2147483647#32) 0#32)
    (IntOp.andi (IntOp.cmpi .sge (IntOp.andi (IntOp.shrsi .scalar b 23#32) 255#32) 1#32) (IntOp.cmpi .sle (IntOp.andi (IntOp.shrsi .scalar b 23#32) 255#32) 253#32)) = 1#1

/-- A scale the precondition allows is a zero of either sign, or has an exponent field from 1 to 253. -/
theorem ok_cases (b : BitVec 32) (h : Ok b) : (b = 0#32 ∨ b = 0x80000000#32) ∨ (1 ≤ ex b ∧ ex b ≤ 253) := by
  have hE : IntOp.andi (IntOp.shrsi .scalar b 23#32) 255#32 = BitVec.ofNat 32 (ex b) := expField_eq b
  unfold Ok at h
  rw [hE] at h
  by_cases hz : b &&& 2147483647#32 = 0#32
  · left
    have hm : ∀ i < 32, i ≠ 31 → (2147483647#32).getLsbD i = true := by decide
    have hm' : ∀ i < 32, i ≠ 31 → (0x80000000#32).getLsbD i = false := by decide
    have : ∀ i (hi : i < 32), i ≠ 31 → b.getLsbD i = false := by
      intro i hi hne
      have := congrArg (fun v => v.getLsbD i) hz
      have h2 : (2147483647#32).getLsbD i = true := hm i hi hne
      simpa [h2] using this
    by_cases hb : b.getLsbD 31
    · right
      apply BitVec.eq_of_getLsbD_eq
      intro i hi
      by_cases h31 : i = 31
      · subst h31; rw [hb]; rfl
      · rw [this i hi h31, hm' i hi h31]
    · left
      apply BitVec.eq_of_getLsbD_eq
      intro i hi
      by_cases h31 : i = 31
      · subst h31; simpa using hb
      · rw [this i hi h31]; simp
  · right
    have hk : ∀ E : Fin 256, IntOp.andi (IntOp.cmpi .sge (BitVec.ofNat 32 E.val) 1#32) (IntOp.cmpi .sle (BitVec.ofNat 32 E.val) 253#32) = 1#1 → 1 ≤ E.val ∧ E.val ≤ 253 := by
      decide +kernel
    refine hk ⟨ex b, ex_lt b⟩ ?_
    have h0 : IntOp.cmpi .eq (IntOp.andi b 2147483647#32) 0#32 = 0#1 := by
      show BitVec.ofBool (b &&& 2147483647#32 == 0#32) = 0#1
      rw [beq_eq_false_iff_ne.mpr hz]
      rfl
    rw [h0] at h
    simpa [IntOp.ori] using h

/-- THE INVERSES AGREE: on the bits the precondition allows, the kernel's inverse of a scale is the reference's. -/
theorem inv_eq (b : BitVec 32) (h : Ok b) : invBits b = invR b := by
  rcases ok_cases b h with hz | ⟨h1, h2⟩
  · have hs : scale b = 0 := by
      rcases hz with rfl | rfl <;> simp [scale, Ideal.ofBits, Ideal.ieee]
    have hE : expField b = 0#32 := by
      rcases hz with rfl | rfl <;> decide
    have hr : invR b = Ideal.ofBits .f32 0x40000000#32 := by
      unfold invR
      rw [hs, if_neg]
      show ¬ (0 : EReal) < max 0 (-0)
      rw [neg_zero, max_self]
      exact lt_irrefl _
    rw [hr]
    unfold invBits
    rw [hE]
    rfl
  · rw [invR_normal b h1 h2, ← shifted (ex b) h1 h2]
    unfold invBits
    rw [expField_eq]
    have hk : ∀ E : Fin 254, 1 ≤ E.val → IntOp.cmpi .eq (BitVec.ofNat 32 E.val) 0#32 = 0#1 := by decide +kernel
    rw [show IntOp.cmpi .eq (BitVec.ofNat 32 (ex b)) 0#32 = 0#1 from hk ⟨ex b, by omega⟩ h1]
    rfl

end Cert.ReferenceIdeal.Hand
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_normal_scales
public import proofs.«01_k».proof.Proof.KFrame
public import proofs.«01_k».proof.Proof.Printed
public import proofs.«01_k».proof.Proof.Inverse

@[expose] public section
noncomputable section

namespace Cert.Proof
open Idealize.ShloMosaic Idealize.ShloMosaic.TcCoe Idealize.SL.Sem
open Cert.KernelIdeal.Hand (specCode specY invBits yAt codesK codesV seqNo hd)
open Cert.ReferenceIdeal.Hand (invR Ok inv_eq yR codesKR codesVR)

attribute [local instance] Cert.Kernel.Gen.facts Cert.KernelIdeal.Gen.facts Cert.ReferenceIdeal.Gen.facts Cert.Pre_normal_scales.Gen.facts

/-- Codes depend on the inverse at the two scales only. -/
theorem specCode_congr (inv inv' : BitVec 32 → EReal) (new : Vec Ideal Cert.KernelIdeal.S32x1x2x128 .bf16) (bits : Vec Ideal Cert.KernelIdeal.S2 .i32)
    (hb : ∀ h : Fin 2, inv (bits (ix1 h)) = inv' (bits (ix1 h))) : specCode inv new bits = specCode inv' new bits := by
  funext h n d
  unfold specCode
  rw [hb h]

/-- What the precondition says of the scales' bits. -/
theorem scales_ok (m : (ℓ : Loc Cert.KernelIdeal.nD Cert.KernelIdeal.τ Cert.KernelIdeal.sig) → Buf (Elt Ideal) ℓ) (hm : Cert.Pre_KernelIdeal_normal_scales m)
    (c : Dev Cert.KernelIdeal.nD) (h : Fin 2) :
    Ok (m ((c : Thread Cert.KernelIdeal.nD Cert.KernelIdeal.τ).loc Cert.KernelIdeal.main_arg4) (ix1 h)) ∧ Ok (m ((c : Thread Cert.KernelIdeal.nD Cert.KernelIdeal.τ).loc Cert.KernelIdeal.main_arg6) (ix1 h)) := by
  obtain ⟨h1, h2⟩ := hm c
  have k1 := congrFun h1 (ix1 h)
  have k2 := congrFun h2 (ix1 h)
  unfold Cert.Pre_normal_scales.fn Cert.Pre_normal_scales.fn_part1 at k1 k2
  exact ⟨k1, k2⟩

/-- THE VALUES AGREE. -/
theorem values (m : (ℓ : Loc Cert.KernelIdeal.nD Cert.KernelIdeal.τ Cert.KernelIdeal.sig) → Buf (Elt Ideal) ℓ) (hm : Cert.Pre_KernelIdeal_normal_scales m)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    yR m' c = (fun i : Cert.KernelIdeal.S32x32x128.Idx =>
        yAt m c ⟨(i 0).val / 2, by have h := (i 0).isLt; change (i 0).val < 32 at h; show _ < Cert.KernelIdeal.cfg0.N; rw [show Cert.KernelIdeal.cfg0.N = 16 from Cert.KernelIdeal.Gen.N_0]; omega⟩ (ix3 (⟨(i 0).val % 2, Nat.mod_lt _ (by decide)⟩ : Fin 2) (i 1) (i 2)))
    ∧ codesKR m' c = codesK m c ∧ codesVR m' c = codesV m c := by
  have hk := specCode_congr invBits invR (m ((c : Thread Cert.KernelIdeal.nD Cert.KernelIdeal.τ).loc Cert.KernelIdeal.main_arg1)) (m ((c : Thread Cert.KernelIdeal.nD Cert.KernelIdeal.τ).loc Cert.KernelIdeal.main_arg4))
    fun h => inv_eq _ (scales_ok m hm c h).1
  have hv := specCode_congr invBits invR (m ((c : Thread Cert.KernelIdeal.nD Cert.KernelIdeal.τ).loc Cert.KernelIdeal.main_arg2)) (m ((c : Thread Cert.KernelIdeal.nD Cert.KernelIdeal.τ).loc Cert.KernelIdeal.main_arg6))
    fun h => inv_eq _ (scales_ok m hm c h).2
  refine ⟨?_, ?_, ?_⟩
  · funext i
    idx_vars i
    unfold yR
    rw [Cert.KernelIdeal.Hand.yAt_ix, e0, e1, e2, e3, e4, e5, e6]
    unfold specY
    rw [hk, hv]
    have hn : ∀ t : Fin Cert.KernelIdeal.cfg0.N, t.val = i0.val / 2 → seqNo (Cert.KernelIdeal.grid0.coords t) ⟨i0.val % 2, Nat.mod_lt _ (by decide)⟩ = i0 := by
      intro t ht
      have h0 := (Cert.KernelIdeal.Hand.idx_in t).2.2.2.2.2.2.2.2.2.2
      apply Fin.ext
      show 2 * ((Cert.KernelIdeal.grid0.coords t) 0).val + i0.val % 2 = i0.val
      rw [h0, ht]; omega
    have hn' := hn ⟨i0.val / 2, by show _ < Cert.KernelIdeal.cfg0.N; rw [show Cert.KernelIdeal.cfg0.N = 16 from Cert.KernelIdeal.Gen.N_0]; omega⟩ rfl
    rw [hn']
    rfl
  · funext i
    idx_vars i
    unfold codesKR
    rw [Cert.KernelIdeal.Hand.codesK_ix, hk, e1, e4]
    rfl
  · funext i
    idx_vars i
    unfold codesVR
    rw [Cert.KernelIdeal.Hand.codesV_ix, hv, e2, e6]
    rfl

/-- The claim. -/
theorem claim : Cert.Claim := ⟨Cert.Kernel.Gen.facts, Cert.KernelIdeal.Gen.facts, Cert.ReferenceIdeal.Gen.facts, Cert.Pre_normal_scales.Gen.facts,
  Cert.Kernel.Hand.frame,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  fun m ρ m' ρ' hm hag => ⟨_, _, fun c => m ((c.tc : Thread Cert.KernelIdeal.nD Cert.KernelIdeal.τ).loc Cert.KernelIdeal.main_arg4), _,
    fun c => m ((c.tc : Thread Cert.KernelIdeal.nD Cert.KernelIdeal.τ).loc Cert.KernelIdeal.main_arg6),
    (θ_run _ _ _).mono (fun r h c =>
      have a := (h c).2.2.2
      ⟨(h c).1, (h c).2.1, a.2.2.2.2.1, (h c).2.2.1, a.2.2.2.2.2.2, a⟩) (Cert.KernelIdeal.Hand.run_value m ρ),
    (θ_run _ _ _).mono (fun r h c =>
      have v := values m hm m' c (hag c).1 (hag c).2.1 (hag c).2.2.1 (hag c).2.2.2.1 (hag c).2.2.2.2.1 (hag c).2.2.2.2.2.1 (hag c).2.2.2.2.2.2
      have a := (h c).2.2.2
      ⟨(h c).1.trans v.1, (h c).2.1.trans v.2.1, a.2.2.2.2.1.trans (hag c).2.2.2.2.1, (h c).2.2.1.trans v.2.2,
        a.2.2.2.2.2.2.trans (hag c).2.2.2.2.2.2, a⟩) (Cert.ReferenceIdeal.Hand.run_value m' ρ')⟩⟩

end Cert.Proof
end
